-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S80 : Shape := ⟨1, ![80]⟩
abbrev S16x1 : Shape := ⟨2, ![16, 1]⟩
abbrev S131072x3 : Shape := ⟨2, ![131072, 3]⟩
abbrev S96x64x32 : Shape := ⟨3, ![96, 64, 32]⟩
abbrev S128x192 : Shape := ⟨2, ![128, 192]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S80 : S_.BroadcastsInDim S80 (![] : Fin 0 → Fin S80.rank)
  bcast_S_S16x1 : S_.BroadcastsInDim S16x1 (![] : Fin 0 → Fin S16x1.rank)
  bcast_S_S96x64x32 : S_.BroadcastsInDim S96x64x32 (![] : Fin 0 → Fin S96x64x32.rank)
  bcast_S_S128 : S_.BroadcastsInDim S128 (![] : Fin 0 → Fin S128.rank)
  reducesTo_S128x192_S128_d1 : S128x192.ReducesTo [1] S128
  h_S_ : 0 < S_.numel
  reducesTo_S128x128_S128_d1 : S128x128.ReducesTo [1] S128
  reducesTo_S1x128_S1_d1 : S1x128.ReducesTo [1] S1
  bcast_S_S1 : S_.BroadcastsInDim S1 (![] : Fin 0 → Fin S1.rank)

variable [Facts]

def fn_part1 {F : FTy → Type} [FloatOps F] (main_arg6 : FVec F S128x192 .f32) (main_arg9 : FVec F S128x128 .f32) (main_arg12 : FVec F S1x128 .f32) (main_v2 : IVec S80 1) (main_v5 : IVec S16x1 1) (main_v8 : IVec S96x64x32 1) (main_v11 : IVec S96x64x32 1) (main_v14 : IVec S96x64x32 1) (main_v17 : IVec S128 1) : IVec S80 1 × IVec S16x1 1 × IVec S96x64x32 1 × IVec S96x64x32 1 × IVec S96x64x32 1 × IVec S128 1 × IVec S128 1 × IVec S128 1 × IVec S1 1 :=
  let main_v18 : FVec F S128x192 .f32 := mulf main_arg6 main_arg6
  let main_cst_5 : FVec F S_ .f32 := constant S_ .f32 0x00000000#32
  let main_v19 : FVec F S128 .f32 := (fun x v => Host.reduceAdd x v reducesTo_S128x192_S128_d1 h_S_) main_v18 main_cst_5
  let main_cst_6 : FVec F S_ .f32 := constant S_ .f32 0x00000000#32
  let main_v20 : FVec F S128 .f32 := broadcastInDim S128 ![] bcast_S_S128 main_cst_6
  let main_v21 : IVec S128 1 := cmpf .ogt main_v19 main_v20
  let main_v22 : FVec F S128x128 .f32 := mulf main_arg9 main_arg9
  let main_cst_7 : FVec F S_ .f32 := constant S_ .f32 0x00000000#32
  let main_v23 : FVec F S128 .f32 := (fun x v => Host.reduceAdd x v reducesTo_S128x128_S128_d1 h_S_) main_v22 main_cst_7
  let main_cst_8 : FVec F S_ .f32 := constant S_ .f32 0x00000000#32
  let main_v24 : FVec F S128 .f32 := broadcastInDim S128 ![] bcast_S_S128 main_cst_8
  let main_v25 : IVec S128 1 := cmpf .ogt main_v23 main_v24
  let main_v26 : FVec F S1x128 .f32 := mulf main_arg12 main_arg12
  let main_cst_9 : FVec F S_ .f32 := constant S_ .f32 0x00000000#32
  let main_v27 : FVec F S1 .f32 := (fun x v => Host.reduceAdd x v reducesTo_S1x128_S1_d1 h_S_) main_v26 main_cst_9
  let main_cst_10 : FVec F S_ .f32 := constant S_ .f32 0x00000000#32
  let main_v28 : FVec F S1 .f32 := broadcastInDim S1 ![] bcast_S_S1 main_cst_10
  let main_v29 : IVec S1 1 := cmpf .ogt main_v27 main_v28
  (main_v2, main_v5, main_v8, main_v11, main_v14, main_v17, main_v21, main_v25, main_v29)

def fn {F : FTy → Type} [FloatOps F] (main_arg0 : FVec F S80 .f32) (main_arg1 : FVec F S16x1 .f32) (main_arg2 : FVec F S131072x3 .f32) (main_arg3 : FVec F S96x64x32 .f32) (main_arg4 : FVec F S96x64x32 .f32) (main_arg5 : FVec F S96x64x32 .f32) (main_arg6 : FVec F S128x192 .f32) (main_arg7 : FVec F S128 .f32) (main_arg8 : FVec F S128 .f32) (main_arg9 : FVec F S128x128 .f32) (main_arg10 : FVec F S128 .f32) (main_arg11 : FVec F S128 .f32) (main_arg12 : FVec F S1x128 .f32) (main_arg13 : FVec F S1 .f32) (main_arg14 : FVec F S1 .f32) : IVec S80 1 × IVec S16x1 1 × IVec S96x64x32 1 × IVec S96x64x32 1 × IVec S96x64x32 1 × IVec S128 1 × IVec S128 1 × IVec S128 1 × IVec S1 1 :=
  let main_v0 : FVec F S80 .f32 := Host.absf main_arg0
  let main_cst : FVec F S_ .f32 := constant S_ .f32 0x7F800000#32
  let main_v1 : FVec F S80 .f32 := broadcastInDim S80 ![] bcast_S_S80 main_cst
  let main_v2 : IVec S80 1 := cmpf .olt main_v0 main_v1
  let main_v3 : FVec F S16x1 .f32 := Host.absf main_arg1
  let main_cst_0 : FVec F S_ .f32 := constant S_ .f32 0x7F800000#32
  let main_v4 : FVec F S16x1 .f32 := broadcastInDim S16x1 ![] bcast_S_S16x1 main_cst_0
  let main_v5 : IVec S16x1 1 := cmpf .olt main_v3 main_v4
  let main_v6 : FVec F S96x64x32 .f32 := Host.absf main_arg3
  let main_cst_1 : FVec F S_ .f32 := constant S_ .f32 0x7F800000#32
  let main_v7 : FVec F S96x64x32 .f32 := broadcastInDim S96x64x32 ![] bcast_S_S96x64x32 main_cst_1
  let main_v8 : IVec S96x64x32 1 := cmpf .olt main_v6 main_v7
  let main_v9 : FVec F S96x64x32 .f32 := Host.absf main_arg4
  let main_cst_2 : FVec F S_ .f32 := constant S_ .f32 0x7F800000#32
  let main_v10 : FVec F S96x64x32 .f32 := broadcastInDim S96x64x32 ![] bcast_S_S96x64x32 main_cst_2
  let main_v11 : IVec S96x64x32 1 := cmpf .olt main_v9 main_v10
  let main_v12 : FVec F S96x64x32 .f32 := Host.absf main_arg5
  let main_cst_3 : FVec F S_ .f32 := constant S_ .f32 0x7F800000#32
  let main_v13 : FVec F S96x64x32 .f32 := broadcastInDim S96x64x32 ![] bcast_S_S96x64x32 main_cst_3
  let main_v14 : IVec S96x64x32 1 := cmpf .olt main_v12 main_v13
  let main_v15 : FVec F S128 .f32 := Host.absf main_arg7
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg6 main_arg9 main_arg12 main_v2 main_v5 main_v8 main_v11 main_v14 main_v17
-- ==== Kernel.lean ====
abbrev S80 : Shape := ⟨1, ![80]⟩
abbrev S16x1 : Shape := ⟨2, ![16, 1]⟩
abbrev S131072x3 : Shape := ⟨2, ![131072, 3]⟩
abbrev S96x64x32 : Shape := ⟨3, ![96, 64, 32]⟩
abbrev S128x192 : Shape := ⟨2, ![128, 192]⟩
abbrev S128 : Shape := ⟨1, ![128]⟩
abbrev S128x128 : Shape := ⟨2, ![128, 128]⟩
abbrev S1x128 : Shape := ⟨2, ![1, 128]⟩
abbrev S1 : Shape := ⟨1, ![1]⟩
abbrev S3x131072 : Shape := ⟨2, ![3, 131072]⟩
abbrev S_ : Shape := ⟨0, ![]⟩
abbrev S126 : Shape := ⟨1, ![126]⟩
abbrev S48 : Shape := ⟨1, ![48]⟩
abbrev S16 : Shape := ⟨1, ![16]⟩
abbrev S112 : Shape := ⟨1, ![112]⟩
abbrev S1024 : Shape := ⟨1, ![1024]⟩
abbrev S8x128 : Shape := ⟨2, ![8, 128]⟩
abbrev S6144x32 : Shape := ⟨2, ![6144, 32]⟩
abbrev S1x131072 : Shape := ⟨2, ![1, 131072]⟩
abbrev S3x8192 : Shape := ⟨2, ![3, 8192]⟩
abbrev S1x8192 : Shape := ⟨2, ![1, 8192]⟩
abbrev S128x2 : Shape := ⟨2, ![128, 2]⟩
abbrev S128x1 : Shape := ⟨2, ![128, 1]⟩
abbrev S1x80 : Shape := ⟨2, ![1, 80]⟩
abbrev S80x1 : Shape := ⟨2, ![80, 1]⟩
abbrev S80x1x1 : Shape := ⟨3, ![80, 1, 1]⟩
abbrev S1x16 : Shape := ⟨2, ![1, 16]⟩
abbrev S16x1x1 : Shape := ⟨3, ![16, 1, 1]⟩
abbrev S80x64x32 : Shape := ⟨3, ![80, 64, 32]⟩
abbrev S64x32 : Shape := ⟨2, ![64, 32]⟩
abbrev S16x64x32 : Shape := ⟨3, ![16, 64, 32]⟩
abbrev S128x32 : Shape := ⟨2, ![128, 32]⟩
abbrev S128x64 : Shape := ⟨2, ![128, 64]⟩
abbrev S1x1 : Shape := ⟨2, ![1, 1]⟩
abbrev S1x1x128 : Shape := ⟨3, ![1, 1, 128]⟩
abbrev S1x1x1 : Shape := ⟨3, ![1, 1, 1]⟩
abbrev S64x1 : Shape := ⟨2, ![64, 1]⟩
abbrev S3x4096 : Shape := ⟨2, ![3, 4096]⟩
abbrev S1x4096 : Shape := ⟨2, ![1, 4096]⟩
abbrev S64x4096 : Shape := ⟨2, ![64, 4096]⟩
abbrev S192x4096 : Shape := ⟨2, ![192, 4096]⟩
abbrev S128x4096 : Shape := ⟨2, ![128, 4096]⟩
abbrev S131072x1 : Shape := ⟨2, ![131072, 1]⟩

abbrev nBuf : Space → Nat
  | .hbm => 31
  | .vmem => 15
  | .smem => 0
  | _ => 0

abbrev bufTy : (tb : Table) → Fin (tcTables nBuf tb) → BufTy
  | .hbm, ⟨0, _⟩ => ⟨S80, .f32⟩
  | .hbm, ⟨1, _⟩ => ⟨S16x1, .f32⟩
  | .hbm, ⟨2, _⟩ => ⟨S131072x3, .f32⟩
  | .hbm, ⟨3, _⟩ => ⟨S96x64x32, .f32⟩
  | .hbm, ⟨4, _⟩ => ⟨S96x64x32, .f32⟩
  | .hbm, ⟨5, _⟩ => ⟨S96x64x32, .f32⟩
  | .hbm, ⟨6, _⟩ => ⟨S128x192, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S1, .f32⟩
  | .hbm, ⟨15, _⟩ => ⟨S3x131072, .f32⟩
  | .hbm, ⟨16, _⟩ => ⟨S128, .f32⟩
  | .hbm, ⟨17, _⟩ => ⟨S_, .f32⟩
  | .hbm, ⟨18, _⟩ => ⟨S126, .f32⟩
  | .hbm, ⟨19, _⟩ => ⟨S_, .f32⟩
  | .hbm, ⟨20, _⟩ => ⟨S48, .f32⟩
  | .hbm, ⟨21, _⟩ => ⟨S16, .f32⟩
  | .hbm, ⟨22, _⟩ => ⟨S_, .f32⟩
  | .hbm, ⟨23, _⟩ => ⟨S112, .f32⟩
  | .hbm, ⟨24, _⟩ => ⟨S1024, .f32⟩
  | .hbm, ⟨25, _⟩ => ⟨S8x128, .f32⟩
  | .hbm, ⟨26, _⟩ => ⟨S6144x32, .f32⟩
  | .hbm, ⟨27, _⟩ => ⟨S6144x32, .f32⟩
  | .hbm, ⟨28, _⟩ => ⟨S6144x32, .f32⟩
  | .hbm, ⟨29, _⟩ => ⟨S1x131072, .f32⟩
  | .hbm, ⟨30, _⟩ => ⟨S131072x1, .f32⟩
  | .local _ .vmem, ⟨0, _⟩ => ⟨S3x8192, .f32⟩
  | .local _ .vmem, ⟨1, _⟩ => ⟨S3x8192, .f32⟩
  | .local _ .vmem, ⟨2, _⟩ => ⟨S8x128, .f32⟩
  | .local _ .vmem, ⟨3, _⟩ => ⟨S6144x32, .f32⟩
  | .local _ .vmem, ⟨4, _⟩ => ⟨S6144x32, .f32⟩
  | .local _ .vmem, ⟨5, _⟩ => ⟨S6144x32, .f32⟩
  | .local _ .vmem, ⟨6, _⟩ => ⟨S128x192, .f32⟩
  | .local _ .vmem, ⟨7, _⟩ => ⟨S128x128, .f32⟩
  | .local _ .vmem, ⟨8, _⟩ => ⟨S1x8192, .f32⟩
  | .local _ .vmem, ⟨9, _⟩ => ⟨S1x8192, .f32⟩
  | .local _ .vmem, ⟨10, _⟩ => ⟨S128x192, .f32⟩
  | .local _ .vmem, ⟨11, _⟩ => ⟨S128x128, .f32⟩
  | .local _ .vmem, ⟨12, _⟩ => ⟨S1x128, .f32⟩
  | .local _ .vmem, ⟨13, _⟩ => ⟨S128x2, .f32⟩
  | .local _ .vmem, ⟨14, _⟩ => ⟨S128x128, .bf16⟩
  | _, _ => ⟨S80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6144x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6144x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S80 : Shape := ⟨1, ![80]⟩
abbrev S16x1 : Shape := ⟨2, ![16, 1]⟩
abbrev S131072x3 : Shape := ⟨2, ![131072, 3]⟩
abbrev S96x64x32 : Shape := ⟨3, ![96, 64, 32]⟩
abbrev S128x192 : Shape := ⟨2, ![128, 192]⟩
abbrev S128 : Shape := ⟨1, ![128]⟩
abbrev S128x128 : Shape := ⟨2, ![128, 128]⟩
abbrev S1x128 : Shape := ⟨2, ![1, 128]⟩
abbrev S1 : Shape := ⟨1, ![1]⟩
abbrev S16 : Shape := ⟨1, ![16]⟩
abbrev S80x64x32 : Shape := ⟨3, ![80, 64, 32]⟩
abbrev S64x32 : Shape := ⟨2, ![64, 32]⟩
abbrev S16x64x32 : Shape := ⟨3, ![16, 64, 32]⟩
abbrev S131072x1 : Shape := ⟨2, ![131072, 1]⟩
abbrev S131072 : Shape := ⟨1, ![131072]⟩
abbrev S_ : Shape := ⟨0, ![]⟩
abbrev S131072x32 : Shape := ⟨2, ![131072, 32]⟩
abbrev S131072x192 : Shape := ⟨2, ![131072, 192]⟩
abbrev S128x1 : Shape := ⟨2, ![128, 1]⟩
abbrev S192x128 : Shape := ⟨2, ![192, 128]⟩
abbrev S131072x128 : Shape := ⟨2, ![131072, 128]⟩
abbrev S1x1 : Shape := ⟨2, ![1, 1]⟩

abbrev nBuf : Space → Nat
  | .hbm => 284
  | .vmem => 0
  | .smem => 0
  | _ => 0

abbrev hbmTy0_0 (i : Nat) : BufTy := match i % 128 with
  | 0 => ⟨S80, .f32⟩
  | 1 => ⟨S16x1, .f32⟩
  | 2 => ⟨S131072x3, .f32⟩
  | 3 => ⟨S96x64x32, .f32⟩
  | 4 => ⟨S96x64x32, .f32⟩
  | 5 => ⟨S96x64x32, .f32⟩
  | 6 => ⟨S128x192, .f32⟩
  | 7 => ⟨S128, .f32⟩
  | 8 => ⟨S128, .f32⟩
  | 9 => ⟨S128x128, .f32⟩
  | 10 => ⟨S128, .f32⟩
  | 11 => ⟨S128, .f32⟩
  | 12 => ⟨S1x128, .f32⟩
  | 13 => ⟨S1, .f32⟩
  | 14 => ⟨S1, .f32⟩
  | 15 => ⟨S16, .f32⟩
  | 16 => ⟨S80x64x32, .f32⟩
  | 17 => ⟨S64x32, .f32⟩
  | 18 => ⟨S80x64x32, .f32⟩
  | 19 => ⟨S64x32, .f32⟩
  | 20 => ⟨S80x64x32, .f32⟩
  | 21 => ⟨S64x32, .f32⟩
  | 22 => ⟨S16x64x32, .f32⟩
  | 23 => ⟨S64x32, .f32⟩
  | 24 => ⟨S16x64x32, .f32⟩
  | 25 => ⟨S64x32, .f32⟩
  | 26 => ⟨S16x64x32, .f32⟩
  | 27 => ⟨S64x32, .f32⟩
  | 28 => ⟨S131072x1, .f32⟩
  | 29 => ⟨S131072, .f32⟩
  | 30 => ⟨S_, .f32⟩
  | 31 => ⟨S_, .f32⟩
  | 32 => ⟨S_, .f32⟩
  | 33 => ⟨S131072, .f32⟩
  | 34 => ⟨S131072, .f32⟩
  | 35 => ⟨S_, .f32⟩
  | 36 => ⟨S131072, .f32⟩
  | 37 => ⟨S131072, .f32⟩
  | 38 => ⟨S_, .f32⟩
  | 39 => ⟨S131072, .f32⟩
  | 40 => ⟨S131072, .f32⟩
  | 41 => ⟨S131072, .f32⟩
  | 42 => ⟨S131072, .i32⟩
  | 43 => ⟨S_, .i32⟩
  | 44 => ⟨S131072, .i32⟩
  | 45 => ⟨S131072, .i32⟩
  | 46 => ⟨S_, .i32⟩
  | 47 => ⟨S131072, .i32⟩
  | 48 => ⟨S131072, .i32⟩
  | 49 => ⟨S131072, .f32⟩
  | 50 => ⟨S131072, .f32⟩
  | 51 => ⟨S131072x1, .f32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S131072x32, .f32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x32, .f32⟩
  | 70 => ⟨S131072x32, .f32⟩
  | 71 => ⟨S131072x32, .f32⟩
  | 72 => ⟨S131072x32, .f32⟩
  | 73 => ⟨S131072x32, .f32⟩
  | 74 => ⟨S_, .i32⟩
  | 75 => ⟨S131072, .i32⟩
  | 76 => ⟨S131072, .i1⟩
  | 77 => ⟨S_, .i32⟩
  | 78 => ⟨S131072, .i32⟩
  | 79 => ⟨S131072, .i32⟩
  | 80 => ⟨S131072, .i32⟩
  | 81 => ⟨S131072x1, .i32⟩
  | 82 => ⟨S131072x32, .f32⟩
  | 83 => ⟨S_, .i32⟩
  | 84 => ⟨S131072, .i32⟩
  | 85 => ⟨S131072, .i1⟩
  | 86 => ⟨S_, .i32⟩
  | 87 => ⟨S131072, .i32⟩
  | 88 => ⟨S131072, .i32⟩
  | 89 => ⟨S131072, .i32⟩
  | 90 => ⟨S131072x1, .i32⟩
  | 91 => ⟨S131072x32, .f32⟩
  | 92 => ⟨S131072x32, .f32⟩
  | 93 => ⟨S131072x32, .f32⟩
  | 94 => ⟨S131072x32, .f32⟩
  | 95 => ⟨S131072x32, .f32⟩
  | 96 => ⟨S131072x1, .f32⟩
  | 97 => ⟨S131072, .f32⟩
  | 98 => ⟨S_, .f32⟩
  | 99 => ⟨S_, .f32⟩
  | 100 => ⟨S_, .f32⟩
  | 101 => ⟨S131072, .f32⟩
  | 102 => ⟨S131072, .f32⟩
  | 103 => ⟨S_, .f32⟩
  | 104 => ⟨S131072, .f32⟩
  | 105 => ⟨S131072, .f32⟩
  | 106 => ⟨S_, .f32⟩
  | 107 => ⟨S131072, .f32⟩
  | 108 => ⟨S131072, .f32⟩
  | 109 => ⟨S131072, .f32⟩
  | 110 => ⟨S131072, .i32⟩
  | 111 => ⟨S_, .i32⟩
  | 112 => ⟨S131072, .i32⟩
  | 113 => ⟨S131072, .i32⟩
  | 114 => ⟨S_, .i32⟩
  | 115 => ⟨S131072, .i32⟩
  | 116 => ⟨S131072, .i32⟩
  | 117 => ⟨S131072, .f32⟩
  | 118 => ⟨S131072, .f32⟩
  | 119 => ⟨S131072x1, .f32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S131072x1, .i32⟩
  | _ => ⟨S80, .f32⟩

abbrev hbmTy0_1 (i : Nat) : BufTy := match i % 128 with
  | 0 => ⟨S131072x32, .f32⟩
  | 1 => ⟨S_, .i32⟩
  | 2 => ⟨S131072, .i32⟩
  | 3 => ⟨S131072, .i1⟩
  | 4 => ⟨S_, .i32⟩
  | 5 => ⟨S131072, .i32⟩
  | 6 => ⟨S131072, .i32⟩
  | 7 => ⟨S131072, .i32⟩
  | 8 => ⟨S131072x1, .i32⟩
  | 9 => ⟨S131072x32, .f32⟩
  | 10 => ⟨S131072x32, .f32⟩
  | 11 => ⟨S131072x32, .f32⟩
  | 12 => ⟨S131072x32, .f32⟩
  | 13 => ⟨S131072x32, .f32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S131072x1, .i32⟩
  | 22 => ⟨S131072x32, .f32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x32, .f32⟩
  | 32 => ⟨S131072x32, .f32⟩
  | 33 => ⟨S131072x32, .f32⟩
  | 34 => ⟨S131072x32, .f32⟩
  | 35 => ⟨S131072x32, .f32⟩
  | 36 => ⟨S131072x1, .f32⟩
  | 37 => ⟨S131072, .f32⟩
  | 38 => ⟨S_, .f32⟩
  | 39 => ⟨S_, .f32⟩
  | 40 => ⟨S_, .f32⟩
  | 41 => ⟨S131072, .f32⟩
  | 42 => ⟨S131072, .f32⟩
  | 43 => ⟨S_, .f32⟩
  | 44 => ⟨S131072, .f32⟩
  | 45 => ⟨S131072, .f32⟩
  | 46 => ⟨S_, .f32⟩
  | 47 => ⟨S131072, .f32⟩
  | 48 => ⟨S131072, .f32⟩
  | 49 => ⟨S131072, .f32⟩
  | 50 => ⟨S131072, .i32⟩
  | 51 => ⟨S_, .i32⟩
  | 52 => ⟨S131072, .i32⟩
  | 53 => ⟨S131072, .i32⟩
  | 54 => ⟨S_, .i32⟩
  | 55 => ⟨S131072, .i32⟩
  | 56 => ⟨S131072, .i32⟩
  | 57 => ⟨S131072, .f32⟩
  | 58 => ⟨S131072, .f32⟩
  | 59 => ⟨S131072x1, .f32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072x32, .f32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S131072x1, .i32⟩
  | 77 => ⟨S131072x32, .f32⟩
  | 78 => ⟨S131072x32, .f32⟩
  | 79 => ⟨S131072x32, .f32⟩
  | 80 => ⟨S131072x32, .f32⟩
  | 81 => ⟨S131072x32, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072x32, .f32⟩
  | 91 => ⟨S_, .i32⟩
  | 92 => ⟨S131072, .i32⟩
  | 93 => ⟨S131072, .i1⟩
  | 94 => ⟨S_, .i32⟩
  | 95 => ⟨S131072, .i32⟩
  | 96 => ⟨S131072, .i32⟩
  | 97 => ⟨S131072, .i32⟩
  | 98 => ⟨S131072x1, .i32⟩
  | 99 => ⟨S131072x32, .f32⟩
  | 100 => ⟨S131072x32, .f32⟩
  | 101 => ⟨S131072x32, .f32⟩
  | 102 => ⟨S131072x32, .f32⟩
  | 103 => ⟨S131072x32, .f32⟩
  | 104 => ⟨S131072x192, .f32⟩
  | 105 => ⟨S128x1, .f32⟩
  | 106 => ⟨S128x192, .f32⟩
  | 107 => ⟨S128x192, .f32⟩
  | 108 => ⟨S128x192, .f32⟩
  | 109 => ⟨S_, .f32⟩
  | 110 => ⟨S128, .f32⟩
  | 111 => ⟨S128x1, .f32⟩
  | 112 => ⟨S128x1, .f32⟩
  | 113 => ⟨S128x192, .f32⟩
  | 114 => ⟨S128x192, .f32⟩
  | 115 => ⟨S192x128, .f32⟩
  | 116 => ⟨S131072x128, .f32⟩
  | 117 => ⟨S1x128, .f32⟩
  | 118 => ⟨S131072x128, .f32⟩
  | 119 => ⟨S131072x128, .f32⟩
  | 120 => ⟨S_, .f32⟩
  | 121 => ⟨S131072x128, .f32⟩
  | 122 => ⟨S131072x128, .f32⟩
  | 123 => ⟨S128x1, .f32⟩
  | 124 => ⟨S128x128, .f32⟩
  | 125 => ⟨S128x128, .f32⟩
  | 126 => ⟨S128x128, .f32⟩
  | 127 => ⟨S_, .f32⟩
  | _ => ⟨S80, .f32⟩

abbrev hbmTy0_2 (i : Nat) : BufTy := match i % 128 with
  | 0 => ⟨S128, .f32⟩
  | 1 => ⟨S128x1, .f32⟩
  | 2 => ⟨S128x1, .f32⟩
  | 3 => ⟨S128x128, .f32⟩
  | 4 => ⟨S128x128, .f32⟩
  | 5 => ⟨S128x128, .f32⟩
  | 6 => ⟨S131072x128, .f32⟩
  | 7 => ⟨S1x128, .f32⟩
  | 8 => ⟨S131072x128, .f32⟩
  | 9 => ⟨S131072x128, .f32⟩
  | 10 => ⟨S_, .f32⟩
  | 11 => ⟨S131072x128, .f32⟩
  | 12 => ⟨S131072x128, .f32⟩
  | 13 => ⟨S1x1, .f32⟩
  | 14 => ⟨S1x128, .f32⟩
  | 15 => ⟨S1x128, .f32⟩
  | 16 => ⟨S1x128, .f32⟩
  | 17 => ⟨S_, .f32⟩
  | 18 => ⟨S1, .f32⟩
  | 19 => ⟨S1x1, .f32⟩
  | 20 => ⟨S1x1, .f32⟩
  | 21 => ⟨S1x128, .f32⟩
  | 22 => ⟨S1x128, .f32⟩
  | 23 => ⟨S128x1, .f32⟩
  | 24 => ⟨S131072x1, .f32⟩
  | 25 => ⟨S1x1, .f32⟩
  | 26 => ⟨S131072x1, .f32⟩
  | 27 => ⟨S131072x1, .f32⟩
  | _ => ⟨S80, .f32⟩

abbrev hbmTy (i : Nat) : BufTy := match i / 128 with
  | 0 => hbmTy0_0 i
  | 1 => hbmTy0_1 i
  | 2 => hbmTy0_2 i
  | _ => ⟨S80, .f32⟩

abbrev bufTy : (tb : Table) → Fin (tcTables nBuf tb) → BufTy
  | .hbm, ⟨i, _⟩ => hbmTy i
  | _, _ => ⟨S80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_7 : Ref sig .tc := ⟨.hbm, 74, rfl⟩
abbrev main_v45 : Ref sig .tc := ⟨.hbm, 75, rfl⟩
abbrev main_v46 : Ref sig .tc := ⟨.hbm, 76, rfl⟩
abbrev main_c_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_cst_12 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v65 : Ref sig .tc := ⟨.hbm, 105, rfl⟩
abbrev main_cst_13 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_14 : Ref sig .tc := ⟨.hbm, 111, rfl⟩
abbrev main_v70 : Ref sig .tc := ⟨.hbm, 112, rfl⟩
abbrev main_v71 : Ref sig .tc := ⟨.hbm, 113, rfl⟩
abbrev main_c_15 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_16 : Ref sig .tc := ⟨.hbm, 120, rfl⟩
abbrev main_v77 : Ref sig .tc := ⟨.hbm, 121, rfl⟩
abbrev main_v78 : Ref sig .tc := ⟨.hbm, 122, rfl⟩
abbrev main_c_17 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_18 : Ref sig .tc := ⟨.hbm, 129, rfl⟩
abbrev main_v84 : Ref sig .tc := ⟨.hbm, 130, rfl⟩
abbrev main_v85 : Ref sig .tc := ⟨.hbm, 131, rfl⟩
abbrev main_c_19 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_20 : Ref sig .tc := ⟨.hbm, 142, rfl⟩
abbrev main_v95 : Ref sig .tc := ⟨.hbm, 143, rfl⟩
abbrev main_v96 : Ref sig .tc := ⟨.hbm, 144, rfl⟩
abbrev main_c_21 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_c_22 : Ref sig .tc := ⟨.hbm, 151, rfl⟩
abbrev main_v102 : Ref sig .tc := ⟨.hbm, 152, rfl⟩
abbrev main_v103 : Ref sig .tc := ⟨.hbm, 153, rfl⟩
abbrev main_c_23 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_cst_25 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_v115 : Ref sig .tc := ⟨.hbm, 173, rfl⟩
abbrev main_cst_26 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_27 : Ref sig .tc := ⟨.hbm, 179, rfl⟩
abbrev main_v120 : Ref sig .tc := ⟨.hbm, 180, rfl⟩
abbrev main_v121 : Ref sig .tc := ⟨.hbm, 181, rfl⟩
abbrev main_c_28 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_c_29 : Ref sig .tc := ⟨.hbm, 188, rfl⟩
abbrev main_v127 : Ref sig .tc := ⟨.hbm, 189, rfl⟩
abbrev main_v128 : Ref sig .tc := ⟨.hbm, 190, rfl⟩
abbrev main_c_30 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_c_31 : Ref sig .tc := ⟨.hbm, 197, rfl⟩
abbrev main_v134 : Ref sig .tc := ⟨.hbm, 198, rfl⟩
abbrev main_v135 : Ref sig .tc := ⟨.hbm, 199, rfl⟩
abbrev main_c_32 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_c_33 : Ref sig .tc := ⟨.hbm, 210, rfl⟩
abbrev main_v145 : Ref sig .tc := ⟨.hbm, 211, rfl⟩
abbrev main_v146 : Ref sig .tc := ⟨.hbm, 212, rfl⟩
abbrev main_c_34 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_c_35 : Ref sig .tc := ⟨.hbm, 219, rfl⟩
abbrev main_v152 : Ref sig .tc := ⟨.hbm, 220, rfl⟩
abbrev main_v153 : Ref sig .tc := ⟨.hbm, 221, rfl⟩
abbrev main_c_36 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_call3_v0 : Ref sig .tc := ⟨.hbm, 236, rfl⟩
abbrev main_call3_cst : Ref sig .tc := ⟨.hbm, 237, rfl⟩
abbrev main_call3_v1 : Ref sig .tc := ⟨.hbm, 238, rfl⟩
abbrev main_call3_v2 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_call4_cst : Ref sig .tc := ⟨.hbm, 248, rfl⟩
abbrev main_call4_v0 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_call5_v0 : Ref sig .tc := ⟨.hbm, 254, rfl⟩
abbrev main_call5_cst : Ref sig .tc := ⟨.hbm, 255, rfl⟩
abbrev main_call5_v1 : Ref sig .tc := ⟨.hbm, 256, rfl⟩
abbrev main_call5_v2 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_call6_cst : Ref sig .tc := ⟨.hbm, 266, rfl⟩
abbrev main_call6_v0 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_call7_v0 : Ref sig .tc := ⟨.hbm, 272, rfl⟩
abbrev main_call7_cst : Ref sig .tc := ⟨.hbm, 273, rfl⟩
abbrev main_call7_v1 : Ref sig .tc := ⟨.hbm, 274, rfl⟩
abbrev main_call7_v2 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩

abbrev nD : Nat := 1
abbrev τ : Topo := Topo.v7x

variable {F : FTy → Type} [FloatOps F]
-- ==== Proof.KBody.lean ====
/-
  What one run of the kernel's body leaves in its output block and in its four carried scratch buffers, as functions of
  the input blocks alone: the pieces the generated run found, read back as the kernel's own named payloads.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Value

open Cert.KernelIdeal Cert.KernelIdeal.Gen

variable {F : FTy → Type} [FloatOps F]

/-- Two zero offsets, written as a list, are the zero offsets. -/
theorem offsets_zero : (![0, 0] : Fin 2 → Nat) = fun _ => 0 := funext fun a => by fin_cases a <;> rfl

/-- The folded table the prologue leaves: three column bands of 64, one per axis, written left to right. -/
def foldedOf (x1 : Vec F S8x128 .f32) (x2 x3 x4 : Vec F S6144x32 .f32) (x5 : Vec F S128x192 .f32) : Vec F S128x192 .f32 :=
  View.canon [⟨Rect.unit ![0, 128] S128x64.size inb_S128x192_S128x64_0_128, k0_pay10 (k0_pay5 x1) (k0_pay6 x1) (k0_pay7 x1 x5) x4⟩,
    ⟨Rect.unit ![0, 64] S128x64.size inb_S128x192_S128x64_0_64, k0_pay9 (k0_pay5 x1) (k0_pay6 x1) (k0_pay7 x1 x5) x3⟩,
    ⟨Rect.unit ![0, 0] S128x64.size inb_S128x192_S128x64_0_0, k0_pay8 x1 x5 x2⟩]

/-- The last layer's weight row the prologue leaves. -/
def lastOf (x1 : Vec F S8x128 .f32) : Vec F S1x128 .f32 := k0_pay13 (k0_pay1 x1)

/-- The two bias columns the prologue leaves. -/
def biasOf (x1 : Vec F S8x128 .f32) : Vec F S128x2 .f32 :=
  View.canon [⟨Rect.unit ![0, 1] S128x1.size inb_S128x2_S128x1_0_1, k0_pay15 (k0_pay4 x1)⟩,
    ⟨Rect.unit ![0, 0] S128x1.size inb_S128x2_S128x1_0_0, k0_pay14 (k0_pay2 x1)⟩]

/-- The second layer's weights the prologue leaves. -/
def midOf (x1 : Vec F S8x128 .f32) (x6 : Vec F S128x128 .f32) : Vec F S128x128 .bf16 :=
  k0_pay16 (k0_pay12 (k0_pay3 x1) x6 (k0_pay11 x6))

/-- The first bias column of the pair. -/
def col0 (s : Vec F S128x2 .f32) : Vec F S128x1 .f32 := View.ld s (Rect.unit ![0, 0] S128x1.size inb_S128x2_S128x1_0_0)
/-- The second bias column of the pair. -/
def col1 (s : Vec F S128x2 .f32) : Vec F S128x1 .f32 := View.ld s (Rect.unit ![0, 1] S128x1.size inb_S128x2_S128x1_0_1)
/-- The first half of a block of points. -/
def half0 (x : Vec F S3x8192 .f32) : Vec F S3x4096 .f32 := View.ld x (Rect.unit ![0, 0] S3x4096.size inb_S3x8192_S3x4096_0_0)
/-- The second half of a block of points. -/
def half1 (x : Vec F S3x8192 .f32) : Vec F S3x4096 .f32 := View.ld x (Rect.unit ![0, 4096] S3x4096.size inb_S3x8192_S3x4096_0_4096)
/-- The last bias, one entry of the packed parameters. -/
def lastBias (x : Vec F S8x128 .f32) : Vec F S1x1 .f32 := View.ld x (Rect.unit ![5, 1] S1x1.size inb_S8x128_S1x1_5_1)

/-- The first half of an output block, from the points and the scratch. -/
def outHalf0 (x0 : Vec F S3x8192 .f32) (x1 : Vec F S8x128 .f32) (s0 : Vec F S128x192 .f32) (s2 : Vec F S1x128 .f32)
    (s3 : Vec F S128x2 .f32) (s4 : Vec F S128x128 .bf16) : Vec F S1x4096 .f32 :=
  k0_pay23 (col0 s3) (col1 s3) (k0_pay18 s2) (k0_pay20 (half0 x0)) (k0_pay21 (half0 x0)) (k0_pay22 (half0 x0))
    (Scalar.ofBits .f32 0x3F800000#32) s0 s4 (lastBias x1)

/-- The second half of an output block. -/
def outHalf1 (x0 : Vec F S3x8192 .f32) (x1 : Vec F S8x128 .f32) (s0 : Vec F S128x192 .f32) (s2 : Vec F S1x128 .f32)
    (s3 : Vec F S128x2 .f32) (s4 : Vec F S128x128 .bf16) : Vec F S1x4096 .f32 :=
  k0_pay27 k0_pay17 (col0 s3) (col1 s3) (k0_pay18 s2) (k0_pay24 (half1 x0)) (k0_pay25 k0_pay17 (half1 x0)) k0_pay26 s0 s4
    (lastBias x1)

/-- The output block the body leaves: its two halves. -/
def outOf (x0 : Vec F S3x8192 .f32) (x1 : Vec F S8x128 .f32) (s0 : Vec F S128x192 .f32) (s2 : Vec F S1x128 .f32)
    (s3 : Vec F S128x2 .f32) (s4 : Vec F S128x128 .bf16) : Vec F S1x8192 .f32 :=
  View.canon [⟨Rect.unit ![0, 4096] S1x4096.size inb_S1x8192_S1x4096_0_4096, outHalf1 x0 x1 s0 s2 s3 s4⟩,
    ⟨Rect.unit ![0, 0] S1x4096.size inb_S1x8192_S1x4096_0_0, outHalf0 x0 x1 s0 s2 s3 s4⟩]

section Cases

variable (c : Dev nD) (i : grid0.Coords) (a1 : Memref sig .tc .vmem S3x8192 .f32) (h1 : a1.IsWhole) (a2 : Memref sig .tc .vmem S8x128 .f32) (h2 : a2.IsWhole) (a3 : Memref sig .tc .vmem S6144x32 .f32) (h3 : a3.IsWhole) (a4 : Memref sig .tc .vmem S6144x32 .f32) (h4 : a4.IsWhole) (a5 : Memref sig .tc .vmem S6144x32 .f32) (h5 : a5.IsWhole) (a6 : Memref sig .tc .vmem S128x192 .f32) (h6 : a6.IsWhole) (a7 : Memref sig .tc .vmem S128x128 .f32) (h7 : a7.IsWhole) (a8 : Memref sig .tc .vmem S1x8192 .f32) (h8 : a8.IsWhole) (a9 : Memref sig .tc .vmem S128x192 .f32) (h9 : a9.IsWhole) (a10 : Memref sig .tc .vmem S128x128 .f32) (h10 : a10.IsWhole) (a11 : Memref sig .tc .vmem S1x128 .f32) (h11 : a11.IsWhole) (a12 : Memref sig .tc .vmem S128x2 .f32) (h12 : a12.IsWhole) (a13 : Memref sig .tc .vmem S128x128 .bf16) (h13 : a13.IsWhole)
  (x0 : Vec F S3x8192 .f32) (x1 : Vec F S8x128 .f32) (x2 x3 x4 : Vec F S6144x32 .f32) (x5 : Vec F S128x192 .f32) (x6 : Vec F S128x128 .f32)

/-- At a later point the output block is `outOf` of the carried scratch. -/
theorem out_B (hc : ¬cond0_0 i) (s0 : Vec F S128x192 .f32) (s2 : Vec F S1x128 .f32) (s3 : Vec F S128x2 .f32) (s4 : Vec F S128x128 .bf16) :
    out0_B_7 c i a1 h1 a2 h2 a3 h3 a4 h4 a5 h5 a6 h6 a7 h7 a8 h8 a9 h9 a10 h10 a11 h11 a12 h12 a13 h13 hc x0 x1 x2 x3 x4 x5 x6 s0 s2 s3 s4 = outOf x0 x1 s0 s2 s3 s4 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc x0 x1 x2 x3 x4 x5 x6 s0 s2 s3 s4)]
  unfold kernelRun0_B
  dsimp only
  sl_unfold_words
  simp only [View.readAt_eq_ld, h1.read_unread, h2.read_unread, h9.read_unread, h11.read_unread, h12.read_unread, h13.read_unread,
    View.ld_unit_zero (S := S128x192) offsets_zero, View.ld_unit_zero (S := S128x128) offsets_zero, View.ld_unit_zero (S := S1x128) offsets_zero]
  rfl

/-- At the first point the folded table is what the prologue computes. -/
theorem sout_A_0 (hc : cond0_0 i) : sout0_A_0 c i a1 h1 a2 h2 a3 h3 a4 h4 a5 h5 a6 h6 a7 h7 a8 h8 a9 h9 a10 h10 a11 h11 a12 h12 a13 h13 hc x0 x1 x2 x3 x4 x5 x6 = foldedOf x1 x2 x3 x4 x5 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h2.read_unread, h3.read_unread, h4.read_unread, h5.read_unread, h6.read_unread,
    View.ld_unit_zero (S := S128x192) offsets_zero, View.ld_unit_zero (S := S8x128) offsets_zero, View.ld_unit_zero (S := S6144x32) offsets_zero]
  rfl

/-- At the first point the last layer's weight row is what the prologue computes. -/
theorem sout_A_2 (hc : cond0_0 i) : sout0_A_2 c i a1 h1 a2 h2 a3 h3 a4 h4 a5 h5 a6 h6 a7 h7 a8 h8 a9 h9 a10 h10 a11 h11 a12 h12 a13 h13 hc x0 x1 x2 x3 x4 x5 x6 = lastOf x1 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero offsets_zero]
  simp only [View.readAt_eq_ld, h2.read_unread, View.ld_unit_zero (S := S8x128) offsets_zero]
  rfl

/-- At the first point the bias columns are what the prologue computes. -/
theorem sout_A_3 (hc : cond0_0 i) : sout0_A_3 c i a1 h1 a2 h2 a3 h3 a4 h4 a5 h5 a6 h6 a7 h7 a8 h8 a9 h9 a10 h10 a11 h11 a12 h12 a13 h13 hc x0 x1 x2 x3 x4 x5 x6 = biasOf x1 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h2.read_unread, View.ld_unit_zero (S := S8x128) offsets_zero]
  rfl

/-- At the first point the second layer's weights are what the prologue computes. -/
theorem sout_A_4 (hc : cond0_0 i) : sout0_A_4 c i a1 h1 a2 h2 a3 h3 a4 h4 a5 h5 a6 h6 a7 h7 a8 h8 a9 h9 a10 h10 a11 h11 a12 h12 a13 h13 hc x0 x1 x2 x3 x4 x5 x6 = midOf x1 x6 := by
  unfold sout0_A_4
  rw [View.read_writes_eq_canon _ _ _ (scover0_A_4 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero offsets_zero]
  simp only [View.readAt_eq_ld, h2.read_unread, h7.read_unread, View.ld_unit_zero (S := S8x128) offsets_zero,
    View.ld_unit_zero (S := S128x128) offsets_zero, View.readCov_unit_zero (S := S128x128) _ offsets_zero]
  rfl

/-- At the first point the output block is `outOf` of the scratch the prologue has just written. -/
theorem out_A (hc : cond0_0 i) : out0_A_7 c i a1 h1 a2 h2 a3 h3 a4 h4 a5 h5 a6 h6 a7 h7 a8 h8 a9 h9 a10 h10 a11 h11 a12 h12 a13 h13 hc x0 x1 x2 x3 x4 x5 x6
    = outOf x0 x1 (foldedOf x1 x2 x3 x4 x5) (lastOf x1) (biasOf x1) (midOf x1 x6) := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread,
    View.ld_unit_zero (S := S128x192) offsets_zero, View.ld_unit_zero (S := S128x128) offsets_zero, View.ld_unit_zero (S := S8x128) offsets_zero,
    View.ld_unit_zero (S := S6144x32) offsets_zero, View.readCov_unit_zero (S := S128x128) _ offsets_zero, View.readCov_unit_zero (S := S1x128) _ offsets_zero,
    View.readCov_eq_canon', View.readCov_cons_toLoadRect]
  have e : View.ld (foldedOf x1 x2 x3 x4 x5) (Rect.unit ![0, 0] S128x192.size inb_S128x192_S128x192_0_0) = foldedOf x1 x2 x3 x4 x5 :=
    View.ld_unit_zero (S := S128x192) offsets_zero _ _
  exact Eq.trans (by rfl) (congrArg (fun s => outOf x0 x1 s (lastOf x1) (biasOf x1) (midOf x1 x6)) e)

end Cases

end Cert.KernelIdeal.Value

end
-- ==== Proof.KRun.lean ====
/-
  What the kernel's result array holds after the whole run: block `t` of it is the body's output block at the `t`-th
  block of points, the scratch being at every point what the prologue left at the first.
-/
module

public import proofs.«01_k».proof.Proof.KBody
public import Idealize.ShloMosaic.Lib.StableHlo.Run
public import Idealize.ShloMosaic.Lib.ValueIdxCore

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

/-! ## The operands that are staged whole -/

/-- The packed parameters, as the region finds them. -/
abbrev pk (c : Dev nD) : Vec F S8x128 .f32 := V m c main_v7
/-- The three line tables, as the region finds them. -/
abbrev tx (c : Dev nD) : Vec F S6144x32 .f32 := V m c main_v8
abbrev ty (c : Dev nD) : Vec F S6144x32 .f32 := V m c main_v9
abbrev tz (c : Dev nD) : Vec F S6144x32 .f32 := V m c main_v10
/-- The first two layers' direction matrices, as the region finds them. -/
abbrev d0 (c : Dev nD) : Vec F S128x192 .f32 := V m c main_arg6
abbrev d1 (c : Dev nD) : Vec F S128x128 .f32 := V m c main_arg9
/-- The points, a coordinate a row. -/
abbrev pts (c : Dev nD) : Vec F S3x131072 .f32 := V m c main_v0

theorem blk_1 (c : Dev nD) (t : Fin cfg0.N) : (iblk m c 1 t : Vec F S8x128 .f32) = pk m c := by
  have hz : (fun a => win0_1.index t a * main_v7.ty.shape.size a) = fun _ => 0 := funext fun a => by fin_cases a <;> rfl
  exact Memref.read_access_unit_zero (Elt F) main_v7 hz (fun a => by rw [congrFun hz a]; simp) _
theorem blk_2 (c : Dev nD) (t : Fin cfg0.N) : (iblk m c 2 t : Vec F S6144x32 .f32) = tx m c := by
  have hz : (fun a => win0_2.index t a * main_v8.ty.shape.size a) = fun _ => 0 := funext fun a => by fin_cases a <;> exact Nat.zero_mul _
  exact Memref.read_access_unit_zero (Elt F) main_v8 hz (fun a => by rw [congrFun hz a]; simp) _
theorem blk_3 (c : Dev nD) (t : Fin cfg0.N) : (iblk m c 3 t : Vec F S6144x32 .f32) = ty m c := by
  have hz : (fun a => win0_3.index t a * main_v9.ty.shape.size a) = fun _ => 0 := funext fun a => by fin_cases a <;> exact Nat.zero_mul _
  exact Memref.read_access_unit_zero (Elt F) main_v9 hz (fun a => by rw [congrFun hz a]; simp) _
theorem blk_4 (c : Dev nD) (t : Fin cfg0.N) : (iblk m c 4 t : Vec F S6144x32 .f32) = tz m c := by
  have hz : (fun a => win0_4.index t a * main_v10.ty.shape.size a) = fun _ => 0 := funext fun a => by fin_cases a <;> exact Nat.zero_mul _
  exact Memref.read_access_unit_zero (Elt F) main_v10 hz (fun a => by rw [congrFun hz a]; simp) _
theorem blk_5 (c : Dev nD) (t : Fin cfg0.N) : (iblk m c 5 t : Vec F S128x192 .f32) = d0 m c := by
  have hz : (fun a => win0_5.index t a * main_arg6.ty.shape.size a) = fun _ => 0 := funext fun a => by fin_cases a <;> rfl
  exact Memref.read_access_unit_zero (Elt F) main_arg6 hz (fun a => by rw [congrFun hz a]; simp) _
theorem blk_6 (c : Dev nD) (t : Fin cfg0.N) : (iblk m c 6 t : Vec F S128x128 .f32) = d1 m c := by
  have hz : (fun a => win0_6.index t a * main_arg9.ty.shape.size a) = fun _ => 0 := funext fun a => by fin_cases a <;> rfl
  exact Memref.read_access_unit_zero (Elt F) main_arg9 hz (fun a => by rw [congrFun hz a]; simp) _

/-- The block index of the points' window: block 0 of the rows, block `t` of the points. -/
theorem index_0 : ∀ t : Fin cfg0.N, win0_0.index t 0 = 0 ∧ win0_0.index t 1 = t.val := by decide +kernel
theorem index_7 : ∀ t : Fin cfg0.N, win0_7.index t 0 = 0 ∧ win0_7.index t 1 = t.val := by decide +kernel

/-- Block `t` of the points, at a row and a position in the block, is the array at position `8192 t + n`. -/
theorem blk_0 (c : Dev nD) (t : Fin cfg0.N) (j : S3x8192.Idx) (k : S3x131072.Idx) (h0 : (k 0).val = (j 0).val)
    (h1 : (k 1).val = 8192 * t.val + (j 1).val) : (iblk m c 0 t : Vec F S3x8192 .f32) j = pts m c k := by
  unfold iblk
  rw [View.read_apply]
  show V m c main_v0 _ = V m c main_v0 _
  congr 1
  funext a
  apply Fin.ext
  match a with
  | ⟨0, _⟩ => show win0_0.index t 0 * 3 + 1 * (j 0).val = (k 0).val; rw [(index_0 t).1]; omega
  | ⟨1, _⟩ => show win0_0.index t 1 * 8192 + 1 * (j 1).val = (k 1).val; rw [(index_0 t).2]; omega

/-! ## The scratch and the output blocks, point by point -/

/-- The folded table of the region's operands. -/
abbrev folded (c : Dev nD) : Vec F S128x192 .f32 := foldedOf (pk m c) (tx m c) (ty m c) (tz m c) (d0 m c)

/-- After every point the output block is the body's, over the scratch the first point left; the scratch stays. -/
theorem outsAt_eq (c : Dev nD) : ∀ (n : ℕ) (h : n < cfg0.N), outsAt0 m c n h
    = (outOf (iblk m c 0 ⟨n, h⟩) (pk m c) (folded m c) (lastOf (pk m c)) (biasOf (pk m c)) (midOf (pk m c) (d1 m c)),
        folded m c, lastOf (pk m c), biasOf (pk m c), midOf (pk m c) (d1 m c))
  | 0, h => by
    rw [outsAt0_A m c ⟨0, h⟩ rfl, out_A, sout_A_0, sout_A_2, sout_A_3, sout_A_4]
    simp only [blk_1, blk_2, blk_3, blk_4, blk_5, blk_6]
  | n + 1, h => by
    have hN : cfg0.N = 16 := N_0
    have hB : ¬(⟨n + 1, h⟩ : Fin cfg0.N).val % 16 = 0 := by dsimp only; omega
    rw [outsAt0_B m c ⟨n + 1, h⟩ hB, out_B]
    unfold sout0_B_0 sout0_B_2 sout0_B_3 sout0_B_4
    simp only [Nat.add_sub_cancel, outsAt_eq c n, blk_1]

/-- The block a position of the result lies in. -/
def blockOf (i : S1x131072.Idx) : Fin cfg0.N := ⟨(i 1).val / 8192, by
  have h1 : (i 1).val < 131072 := (i 1).isLt; have hN : cfg0.N = 16 := N_0; omega⟩
/-- Its position in that block. -/
def posOf (i : S1x131072.Idx) : S1x8192.Idx := ValueIdx.ix2 ⟨0, by decide⟩ ⟨(i 1).val % 8192, Nat.mod_lt _ (by decide)⟩

/-- The result array: at each position, the output block of its block of points. -/
def result (c : Dev nD) : Buf (Elt F) ((c : Thread nD τ).loc main_v11) := fun i =>
  outOf (iblk m c 0 (blockOf i)) (pk m c) (folded m c) (lastOf (pk m c)) (biasOf (pk m c)) (midOf (pk m c) (d1 m c)) (posOf i)

/-- The output block of block `t` of the points. -/
abbrev blockOut (c : Dev nD) (t : Fin cfg0.N) : Vec F S1x8192 .f32 :=
  outOf (iblk m c 0 t) (pk m c) (folded m c) (lastOf (pk m c)) (biasOf (pk m c)) (midOf (pk m c) (d1 m c))

/-- The result array at a position of block `t` is that block's output there. -/
theorem result_at (c : Dev nD) (t : Fin cfg0.N) (j : S1x8192.Idx) (k : S1x131072.Idx)
    (hk1 : (k 1).val = 8192 * t.val + (j 1).val) : result m c k = blockOut m c t j := by
  have hj0 : (j 0).val < 1 := (j 0).isLt
  have hj1 : (j 1).val < 8192 := (j 1).isLt
  have hb : blockOf k = t := Fin.ext (by show (k 1).val / 8192 = t.val; omega)
  have hp : posOf k = j := funext fun a => Fin.ext (by
    match a with
    | ⟨0, _⟩ => show 0 = (j 0).val; omega
    | ⟨1, _⟩ => show (k 1).val % 8192 = (j 1).val; omega)
  unfold result
  rw [hb, hp]

/-- A block whose positions hold what an array holds at the block's place is the array read there. -/
theorem cut_eq_read (t : Fin cfg0.N) (R : S1x131072.Idx → Elt F .f32) (X : Vec F S1x8192 .f32)
    (h : ∀ (j : S1x8192.Idx) (k : S1x131072.Idx), (k 1).val = 8192 * t.val + (j 1).val → R k = X j) :
    (cfg0.win 7).cut (grid0.coords t) X = ((cfg0.win 7).blk t).view.read (Elt F) R := by
  funext j
  refine Eq.symm (Eq.trans (b := R (((cfg0.win 7).blk t).view.emb j)) rfl (h j _ ?_))
  show win0_7.index t 1 * 8192 + 1 * (j 1).val = _
  rw [(index_7 t).2]
  show t.val * 8192 + 1 * (j 1).val = 8192 * t.val + (j 1).val
  omega

/-- Each write-back writes a block of it. -/
theorem flushed_eq (c : Dev nD) (t : Fin cfg0.N) :
    (dats m 0 c).flushed 7 t = ((cfg0.win 7).blk t).view.read (Elt F) (result m c) := by
  have e : (dats m 0 c).after 7 t = blockOut m c t := by
    rw [after0_7, outsAt_eq]
  exact (congrArg ((cfg0.win 7).cut (grid0.coords t)) e).trans (cut_eq_read t (result m c) (blockOut m c t) fun j k h => result_at m c t j k h)

/-- So the result array ends holding it. -/
theorem final_o (c : Dev nD) : (dats m 0 c).arrAt 7 cfg0.N = result m c :=
  (dats m 0 c).arrAt_eq_of_cover 7 (result m c) (fun t _ => flushed_eq m c t) fun i =>
    ⟨blockOf i, flush0_7 _, by
      show i ∈ ((View.whole main_v11).slice (win0_7.rect (blockOf i))).set
      rw [View.set_slice_whole, Rect.mem_set_unit]
      intro a
      have h0 : (i 0 : Nat) < 1 := (i 0).isLt
      have h1 : (i 1 : Nat) < 131072 := (i 1).isLt
      match a with
      | ⟨0, _⟩ => show win0_7.index (blockOf i) 0 * 1 ≤ (i 0 : Nat) ∧ (i 0 : Nat) < win0_7.index (blockOf i) 0 * 1 + 1
                  rw [(index_7 _).1]; omega
      | ⟨1, _⟩ => show win0_7.index (blockOf i) 1 * 8192 ≤ (i 1 : Nat) ∧ (i 1 : Nat) < win0_7.index (blockOf i) 1 * 8192 + 8192
                  rw [(index_7 _).2]; show (i 1 : Nat) / 8192 * 8192 ≤ _ ∧ _ < (i 1 : Nat) / 8192 * 8192 + _; omega⟩

/-- The host's last operation writes the result array as a column. -/
theorem tail_v12 (c : Dev nD) : Pipeline.afterTail₀ cfgs (dats m) 0 (V0 m) [hostOps1] c main_v12
    = shapeCast S131072x1 (result m c : Vec F S1x131072 .f32) shapeCasts_S1x131072_S131072x1 := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v11)
      = result m c :=
    (Pipeline.withArrays_arr _ winFacts0.arr_inj c (V0 m c) (fun w => (dats m 0 c).arrAt w (cfgs 0).N) 7).trans (final_o m c)
  rw [e]
  rfl

/-! ## The arrays the region finds -/

theorem V_pts (c : Dev nD) : pts m c = transpose S3x131072 [1, 0] (m ((c : Thread nD τ).loc main_arg2) : Vec F S131072x3 .f32) transposes_S131072x3_S3x131072_1_0 := by
  show StableHlo.after (List.flatten [hostOps0]) (fun b => m (c, b)) (Proc.devRef .tc main_v0) = _
  simp only [hostOps0, List.flatten_cons, List.flatten_nil, List.append_nil, List.cons_append, List.nil_append]
  after_results
theorem V_tx (c : Dev nD) : tx m c = shapeCast S6144x32 (m ((c : Thread nD τ).loc main_arg3) : Vec F S96x64x32 .f32) shapeCasts_S96x64x32_S6144x32 := by
  show StableHlo.after (List.flatten [hostOps0]) (fun b => m (c, b)) (Proc.devRef .tc main_v8) = _
  simp only [hostOps0, List.flatten_cons, List.flatten_nil, List.append_nil, List.cons_append, List.nil_append]
  after_results
  rfl
theorem V_ty (c : Dev nD) : ty m c = shapeCast S6144x32 (m ((c : Thread nD τ).loc main_arg4) : Vec F S96x64x32 .f32) shapeCasts_S96x64x32_S6144x32 := by
  show StableHlo.after (List.flatten [hostOps0]) (fun b => m (c, b)) (Proc.devRef .tc main_v9) = _
  simp only [hostOps0, List.flatten_cons, List.flatten_nil, List.append_nil, List.cons_append, List.nil_append]
  after_results
  rfl
theorem V_tz (c : Dev nD) : tz m c = shapeCast S6144x32 (m ((c : Thread nD τ).loc main_arg5) : Vec F S96x64x32 .f32) shapeCasts_S96x64x32_S6144x32 := by
  show StableHlo.after (List.flatten [hostOps0]) (fun b => m (c, b)) (Proc.devRef .tc main_v10) = _
  simp only [hostOps0, List.flatten_cons, List.flatten_nil, List.append_nil, List.cons_append, List.nil_append]
  after_results
  rfl

/-- The parameter vectors, end to end, as the host packs them. -/
def packed (c : Dev nD) : Vec F S1024 .f32 :=
  concatenate S1024 0 [⟨S128, (m ((c : Thread nD τ).loc main_arg7) : Vec F S128 .f32)⟩,
    ⟨S128, (m ((c : Thread nD τ).loc main_arg8) : Vec F S128 .f32)⟩, ⟨S128, (m ((c : Thread nD τ).loc main_arg10) : Vec F S128 .f32)⟩,
    ⟨S128, (m ((c : Thread nD τ).loc main_arg11) : Vec F S128 .f32)⟩,
    ⟨S128, (shapeCast S128 (m ((c : Thread nD τ).loc main_arg12) : Vec F S1x128 .f32) shapeCasts_S1x128_S128 : Vec F S128 .f32)⟩,
    ⟨S1, (m ((c : Thread nD τ).loc main_arg13) : Vec F S1 .f32)⟩, ⟨S1, (m ((c : Thread nD τ).loc main_arg14) : Vec F S1 .f32)⟩,
    ⟨S126, (fun _ => Scalar.ofBits .f32 0x00000000#32 : Vec F S126 .f32)⟩, ⟨S80, (m ((c : Thread nD τ).loc main_arg0) : Vec F S80 .f32)⟩,
    ⟨S48, (fun _ => Scalar.ofBits .f32 0x00000000#32 : Vec F S48 .f32)⟩,
    ⟨S16, (shapeCast S16 (m ((c : Thread nD τ).loc main_arg1) : Vec F S16x1 .f32) shapeCasts_S16x1_S16 : Vec F S16 .f32)⟩,
    ⟨S112, (fun _ => Scalar.ofBits .f32 0x00000000#32 : Vec F S112 .f32)⟩]
    concatenates_S128_S128_S128_S128_S128_S1_S1_S126_S80_S48_S16_S112_S1024_d0

theorem V_pk (c : Dev nD) : pk m c = shapeCast S8x128 (packed m c) shapeCasts_S1024_S8x128 := by
  show StableHlo.after (List.flatten [hostOps0]) (fun b => m (c, b)) (Proc.devRef .tc main_v7) = _
  simp only [hostOps0, List.flatten_cons, List.flatten_nil, List.append_nil, List.cons_append, List.nil_append]
  after_results
  rfl

/-- The run, read: the result buffer holds the result array as a column. -/
theorem run_value : θ_run defs (onTc (τ := τ) (main (F := F))) ⟨m, fun _ => 0, ρ⟩ fun r => ∀ c : Dev nD,
    r.2.mem ((c : Thread nD τ).loc main_v12) = shapeCast S131072x1 (result m c : Vec F S1x131072 .f32) shapeCasts_S1x131072_S131072x1 :=
  (θ_run defs _ _).mono (fun _ h c => ((h c).2 main_v12 (Pipeline.mem_restRefs_of main_v12 (by decide) (by decide))).trans (tail_v12 m c))
    (run_main m ρ)

end Cert.KernelIdeal.Value

end
-- ==== Proof.KAt.lean ====
/-
  The kernel's arrays read at an index over the extended reals: the packed parameters, the scratch arrays, an output
  block, and from them the result array at a point.
-/
module

public import proofs.«01_k».proof.Proof.KRun
public import Idealize.ShloMosaic.Lib.Pointwise

@[expose] public section

noncomputable section

open Idealize.ShloMosaic Idealize.ShloMosaic.TcCoe Idealize.SL.Sem

namespace Cert.KernelIdeal.Value

open Cert.KernelIdeal Cert.KernelIdeal.Gen

/-! ## The packed parameters -/

section Pack
variable (m : (ℓ : Loc nD τ sig) → Buf (Elt Ideal) ℓ) (c : Dev nD)

/-- Row 0 of the pack is the first layer's gains. -/
theorem pk_g0 (j : Fin 128) : pk m c (ix2 0 j) = (m ((c : Thread nD τ).loc main_arg7) : Vec Ideal S128 .f32) (ix1 j) := by
  rw [V_pk]
  pointwise [packed]

/-- Row 1 is the first layer's biases. -/
theorem pk_b0 (j : Fin 128) : pk m c (ix2 1 j) = (m ((c : Thread nD τ).loc main_arg8) : Vec Ideal S128 .f32) (ix1 j) := by
  rw [V_pk]
  pointwise [packed]

/-- Row 2 is the second layer's gains. -/
theorem pk_g1 (j : Fin 128) : pk m c (ix2 2 j) = (m ((c : Thread nD τ).loc main_arg10) : Vec Ideal S128 .f32) (ix1 j) := by
  rw [V_pk]
  pointwise [packed]
  rw [dif_neg (by omega), dif_neg (by omega), dif_pos (by omega)]
  congr 2; apply Fin.ext; simp only []; omega

/-- Row 3 is the second layer's biases. -/
theorem pk_b1 (j : Fin 128) : pk m c (ix2 3 j) = (m ((c : Thread nD τ).loc main_arg11) : Vec Ideal S128 .f32) (ix1 j) := by
  rw [V_pk]
  pointwise [packed]
  rw [dif_neg (by omega), dif_neg (by omega), dif_neg (by omega), dif_pos (by omega)]
  congr 2; apply Fin.ext; simp only []; omega

/-- Row 4 is the last layer's direction. -/
theorem pk_v2 (j : Fin 128) : pk m c (ix2 4 j) = (m ((c : Thread nD τ).loc main_arg12) : Vec Ideal S1x128 .f32) (ix2 0 j) := by
  rw [V_pk]
  pointwise [packed]
  rw [dif_neg (by omega), dif_neg (by omega), dif_neg (by omega), dif_neg (by omega), dif_pos (by omega)]
  congr 2; apply Fin.ext; simp only []; omega

/-- Row 5 starts with the last layer's gain … -/
theorem pk_g2 : pk m c (ix2 5 0) = (m ((c : Thread nD τ).loc main_arg13) : Vec Ideal S1 .f32) (ix1 0) := by
  rw [V_pk]
  pointwise [packed]

/-- … and its bias. -/
theorem pk_b2 : pk m c (ix2 5 1) = (m ((c : Thread nD τ).loc main_arg14) : Vec Ideal S1 .f32) (ix1 0) := by
  rw [V_pk]
  pointwise [packed]

/-- Row 6 starts with the expression coefficients. -/
theorem pk_e (j : Fin 80) (h : j.val < 128) : pk m c (ix2 6 ⟨j.val, h⟩) = (m ((c : Thread nD τ).loc main_arg0) : Vec Ideal S80 .f32) (ix1 j) := by
  rw [V_pk]
  pointwise [packed]
  rw [dif_neg (by omega), dif_neg (by omega), dif_neg (by omega), dif_neg (by omega), dif_neg (by omega), dif_neg (by omega),
    dif_neg (by omega), dif_neg (by omega), dif_pos (by omega)]
  congr 2; apply Fin.ext; simp only []; omega

/-- Row 7 starts with the jaw coefficients. -/
theorem pk_jw (j : Fin 16) (h : j.val < 128) : pk m c (ix2 7 ⟨j.val, h⟩) = (m ((c : Thread nD τ).loc main_arg1) : Vec Ideal S16x1 .f32) (ix2 j 0) := by
  rw [V_pk]
  pointwise [packed]
  rw [dif_neg (by omega), dif_neg (by omega), dif_neg (by omega), dif_neg (by omega), dif_neg (by omega), dif_neg (by omega),
    dif_neg (by omega), dif_neg (by omega), dif_neg (by omega), dif_neg (by omega), dif_pos (by omega)]
  congr 2; apply Fin.ext; simp only []; omega

/-- Three axes flattened to rows of 32, read at a row. -/
theorem rows_at (x : Vec Ideal S96x64x32 .f32) (i : Fin 96) (l : Fin 64) (k : Fin 32) (h : i.val * 64 + l.val < 6144) :
    shapeCast S6144x32 x shapeCasts_S96x64x32_S6144x32 (ix2 ⟨i.val * 64 + l.val, h⟩ k) = x (ix3 i l k) := by
  refine shapeCast_apply x _ _ _ ?_
  rw [Shape.rowMajor_val_three, Shape.rowMajor_val_two]
  rfl

/-- A flat table's row is the argument's. -/
theorem tx_at (i : Fin 96) (l : Fin 64) (k : Fin 32) (h : i.val * 64 + l.val < 6144) :
    tx m c (ix2 ⟨i.val * 64 + l.val, h⟩ k) = (m ((c : Thread nD τ).loc main_arg3) : Vec Ideal S96x64x32 .f32) (ix3 i l k) := by
  rw [V_tx]
  exact rows_at _ i l k h

/-- A flat table's row is the argument's. -/
theorem ty_at (i : Fin 96) (l : Fin 64) (k : Fin 32) (h : i.val * 64 + l.val < 6144) :
    ty m c (ix2 ⟨i.val * 64 + l.val, h⟩ k) = (m ((c : Thread nD τ).loc main_arg4) : Vec Ideal S96x64x32 .f32) (ix3 i l k) := by
  rw [V_ty]
  exact rows_at _ i l k h

/-- A flat table's row is the argument's. -/
theorem tz_at (i : Fin 96) (l : Fin 64) (k : Fin 32) (h : i.val * 64 + l.val < 6144) :
    tz m c (ix2 ⟨i.val * 64 + l.val, h⟩ k) = (m ((c : Thread nD τ).loc main_arg5) : Vec Ideal S96x64x32 .f32) (ix3 i l k) := by
  rw [V_tz]
  exact rows_at _ i l k h

/-- The points, transposed. -/
theorem pts_at (a : Fin 3) (n : Fin 131072) : pts m c (ix2 a n) = (m ((c : Thread nD τ).loc main_arg2) : Vec Ideal S131072x3 .f32) (ix2 n a) := by
  rw [V_pts]
  pointwise []

end Pack

/-! ## The scratch arrays -/

/-- Row `v` scaled to length `g`, at `k`. -/
def scaled {n : ℕ} (v : Fin n → EReal) (g : EReal) (k : Fin n) : EReal := v k * (g * Ideal.rsqrt (∑ x, v x * v x))

section Scratch
variable (x1 : Vec Ideal S8x128 .f32)

theorem last_at (k : Fin 128) : lastOf x1 (ix2 0 k) = scaled (fun k => x1 (ix2 4 k)) (x1 (ix2 5 0)) k := by
  unfold lastOf scaled
  pointwise [k0_pay13, k0_pay1]
  simp only [Fin.sum_univ_one]
  rfl

theorem mid_at (x6 : Vec Ideal S128x128 .f32) (j k : Fin 128) : midOf x1 x6 (ix2 j k) = scaled (fun k => x6 (ix2 j k)) (x1 (ix2 2 j)) k := by
  unfold midOf scaled
  pointwise [k0_pay16, k0_pay12, k0_pay3, k0_pay1, k0_pay11]

theorem bias_at0 (j : Fin 128) : biasOf x1 (ix2 j 0) = x1 (ix2 1 j) := by
  unfold biasOf
  rw [View.canon_cons_of_not_mem]
  · have e : (ix2 j 0 : S128x2.Idx) = (Rect.unit (s := S128x2) ![0, 0] S128x1.size inb_S128x2_S128x1_0_0).emb (ix2 j 0 : S128x1.Idx) :=
      funext fun a => Fin.ext (by match a with | ⟨0, _⟩ => show j.val = 0 + 1 * j.val; omega | ⟨1, _⟩ => rfl)
    rw [e, View.canon_cons_emb]
    pointwise [k0_pay14, k0_pay15, k0_pay1, k0_pay2, k0_pay4]
  · rw [Rect.mem_set_unit]
    intro h
    have h1 : (1 : ℕ) ≤ 0 := (h 1).1
    omega

theorem bias_at1 (j : Fin 128) : biasOf x1 (ix2 j 1) = x1 (ix2 3 j) := by
  unfold biasOf
  have e : (ix2 j 1 : S128x2.Idx) = (Rect.unit (s := S128x2) ![0, 1] S128x1.size inb_S128x2_S128x1_0_1).emb (ix2 j 0 : S128x1.Idx) :=
    funext fun a => Fin.ext (by match a with | ⟨0, _⟩ => show j.val = 0 + 1 * j.val; omega | ⟨1, _⟩ => rfl)
  rw [e, View.canon_cons_emb]
  pointwise [k0_pay14, k0_pay15, k0_pay1, k0_pay2, k0_pay4]

/-- The folded table of one axis at output `j` and knot `l`: the table's columns under the scaled first-layer row. -/
def foldedAxis (x4 : Vec Ideal S6144x32 .f32) (x5 : Vec Ideal S128x192 .f32) (o : ℕ) (ho : o + 128 ≤ 192) (j : Fin 128) (l : Fin 64) : EReal :=
  ∑ k : Fin 32, scaled (fun k => x5 (ix2 j k)) (x1 (ix2 0 j)) ⟨o + k.val, by omega⟩
        * ∑ i : Fin 80, x4 (ix2 ⟨i.val * 64 + l.val, by omega⟩ k) * x1 (ix2 6 ⟨i.val, by omega⟩)
    + ∑ k : Fin 32, scaled (fun k => x5 (ix2 j k)) (x1 (ix2 0 j)) ⟨96 + o + k.val, by omega⟩
        * ∑ i : Fin 16, x4 (ix2 ⟨(80 + i.val) * 64 + l.val, by omega⟩ k) * x1 (ix2 7 ⟨i.val, by omega⟩)

theorem pay10_at (x4 : Vec Ideal S6144x32 .f32) (x5 : Vec Ideal S128x192 .f32) (j : Fin 128) (l : Fin 64) :
    k0_pay10 (k0_pay5 x1) (k0_pay6 x1) (k0_pay7 x1 x5) x4 (ix2 j l) = foldedAxis x1 x4 x5 64 (by omega) j l := by
  unfold foldedAxis scaled
  pointwise [k0_pay10, k0_pay5, k0_pay6, k0_pay7, k0_pay1]

theorem pay9_at (x4 : Vec Ideal S6144x32 .f32) (x5 : Vec Ideal S128x192 .f32) (j : Fin 128) (l : Fin 64) :
    k0_pay9 (k0_pay5 x1) (k0_pay6 x1) (k0_pay7 x1 x5) x4 (ix2 j l) = foldedAxis x1 x4 x5 32 (by omega) j l := by
  unfold foldedAxis scaled
  pointwise [k0_pay9, k0_pay5, k0_pay6, k0_pay7, k0_pay1]

theorem pay8_at (x4 : Vec Ideal S6144x32 .f32) (x5 : Vec Ideal S128x192 .f32) (j : Fin 128) (l : Fin 64) :
    k0_pay8 x1 x5 x4 (ix2 j l) = foldedAxis x1 x4 x5 0 (by omega) j l := by
  unfold foldedAxis scaled
  pointwise [k0_pay8, k0_pay5, k0_pay6, k0_pay7, k0_pay1]

/-- The folded table at output `j`, a knot of the first axis … -/
theorem folded_at0 (x2 x3 x4 : Vec Ideal S6144x32 .f32) (x5 : Vec Ideal S128x192 .f32) (j : Fin 128) (l : Fin 64) (h : l.val < 192) :
    foldedOf x1 x2 x3 x4 x5 (ix2 j ⟨l.val, h⟩) = foldedAxis x1 x2 x5 0 (by omega) j l := by
  unfold foldedOf
  have hl := l.isLt
  rw [View.canon_cons_of_not_mem, View.canon_cons_of_not_mem]
  · have e : (ix2 j ⟨l.val, h⟩ : S128x192.Idx) = (Rect.unit (s := S128x192) ![0, 0] S128x64.size inb_S128x192_S128x64_0_0).emb (ix2 j l : S128x64.Idx) :=
      funext fun a => Fin.ext (by match a with | ⟨0, _⟩ => show j.val = 0 + 1 * j.val; omega | ⟨1, _⟩ => show l.val = 0 + 1 * l.val; omega)
    rw [e, View.canon_cons_emb]
    exact pay8_at x1 x2 x5 j l
  · rw [Rect.mem_set_unit]
    intro h
    have h1 : (64 : ℕ) ≤ l.val := (h 1).1
    omega
  · rw [Rect.mem_set_unit]
    intro h
    have h1 : (128 : ℕ) ≤ l.val := (h 1).1
    omega

/-- … of the second … -/
theorem folded_at1 (x2 x3 x4 : Vec Ideal S6144x32 .f32) (x5 : Vec Ideal S128x192 .f32) (j : Fin 128) (l : Fin 64) (h : 64 + l.val < 192) :
    foldedOf x1 x2 x3 x4 x5 (ix2 j ⟨64 + l.val, h⟩) = foldedAxis x1 x3 x5 32 (by omega) j l := by
  unfold foldedOf
  have hl := l.isLt
  rw [View.canon_cons_of_not_mem]
  · have e : (ix2 j ⟨64 + l.val, h⟩ : S128x192.Idx) = (Rect.unit (s := S128x192) ![0, 64] S128x64.size inb_S128x192_S128x64_0_64).emb (ix2 j l : S128x64.Idx) :=
      funext fun a => Fin.ext (by match a with | ⟨0, _⟩ => show j.val = 0 + 1 * j.val; omega | ⟨1, _⟩ => show 64 + l.val = 64 + 1 * l.val; omega)
    rw [e, View.canon_cons_emb]
    exact pay9_at x1 x3 x5 j l
  · rw [Rect.mem_set_unit]
    intro h
    have h1 : (128 : ℕ) ≤ 64 + l.val := (h 1).1
    omega

/-- … and of the third. -/
theorem folded_at2 (x2 x3 x4 : Vec Ideal S6144x32 .f32) (x5 : Vec Ideal S128x192 .f32) (j : Fin 128) (l : Fin 64) (h : 128 + l.val < 192) :
    foldedOf x1 x2 x3 x4 x5 (ix2 j ⟨128 + l.val, h⟩) = foldedAxis x1 x4 x5 64 (by omega) j l := by
  unfold foldedOf
  have e : (ix2 j ⟨128 + l.val, h⟩ : S128x192.Idx) = (Rect.unit (s := S128x192) ![0, 128] S128x64.size inb_S128x192_S128x64_0_128).emb (ix2 j l : S128x64.Idx) :=
    funext fun a => Fin.ext (by match a with | ⟨0, _⟩ => show j.val = 0 + 1 * j.val; omega | ⟨1, _⟩ => show 128 + l.val = 128 + 1 * l.val; omega)
  rw [e, View.canon_cons_emb]
  exact pay10_at x1 x4 x5 j l

end Scratch

/-! ## An output block -/

/-- The tent of coordinate `x` over knot `l`. -/
def tentE (x : EReal) (l : ℕ) : EReal :=
  max (1 - FloatOps.absf (F := Ideal) (φ := .f32) (min 1 (max 0 x) * Ideal.ofBits FTy.f32 0x427C0000#32
    - FloatOps.sitofp (F := Ideal) .f32 (BitVec.ofNat 32 l))) 0

/-- The three axes' tents of a point, one under another. -/
def tents (x y z : EReal) (k : Fin 192) : EReal :=
  if k.val < 64 then tentE x k.val else if k.val - 64 < 64 then tentE y (k.val - 64) else tentE z (k.val - 64 - 64)

/-- What the body computes at a point of coordinates `x`, `y`, `z` from its scratch and the last bias. -/
def pointOut (s0 : Vec Ideal S128x192 .f32) (s2 : Vec Ideal S1x128 .f32) (s3 : Vec Ideal S128x2 .f32) (s4 : Vec Ideal S128x128 .bf16)
    (b : EReal) (x y z : EReal) : EReal :=
  ∑ p : Fin 128, s2 (ix2 0 p) * max (∑ q : Fin 128, s4 (ix2 p q) * max (∑ k : Fin 192, s0 (ix2 q k) * tents x y z k + s3 (ix2 q 0)) 0 + s3 (ix2 p 1)) 0 + b

section Out
variable (x0 : Vec Ideal S3x8192 .f32) (x1 : Vec Ideal S8x128 .f32) (s0 : Vec Ideal S128x192 .f32) (s2 : Vec Ideal S1x128 .f32)
  (s3 : Vec Ideal S128x2 .f32) (s4 : Vec Ideal S128x128 .bf16)

theorem half0_at (n : Fin 4096) (h : n.val < 8192) : outHalf0 x0 x1 s0 s2 s3 s4 (ix2 0 n)
    = pointOut s0 s2 s3 s4 (x1 (ix2 5 1)) (x0 (ix2 0 ⟨n.val, h⟩)) (x0 (ix2 1 ⟨n.val, h⟩)) (x0 (ix2 2 ⟨n.val, h⟩)) := by
  unfold outHalf0 pointOut tents tentE
  pointwise [k0_pay23, k0_pay18, k0_pay20, k0_pay21, k0_pay22, k0_pay19, k0_pay17, col0, col1, half0, lastBias]
  rfl

theorem half1_at (n : Fin 4096) (h : 4096 + n.val < 8192) : outHalf1 x0 x1 s0 s2 s3 s4 (ix2 0 n)
    = pointOut s0 s2 s3 s4 (x1 (ix2 5 1)) (x0 (ix2 0 ⟨4096 + n.val, h⟩)) (x0 (ix2 1 ⟨4096 + n.val, h⟩)) (x0 (ix2 2 ⟨4096 + n.val, h⟩)) := by
  unfold outHalf1 pointOut tents tentE
  pointwise [k0_pay27, k0_pay18, k0_pay24, k0_pay25, k0_pay26, k0_pay17, col0, col1, half1, lastBias]
  rfl

/-- An output block at a position is the body's value at the point there. -/
theorem out_at (n : Fin 8192) : outOf x0 x1 s0 s2 s3 s4 (ix2 0 n)
    = pointOut s0 s2 s3 s4 (x1 (ix2 5 1)) (x0 (ix2 0 n)) (x0 (ix2 1 n)) (x0 (ix2 2 n)) := by
  unfold outOf
  by_cases hn : n.val < 4096
  · rw [View.canon_cons_of_not_mem]
    · have e : (ix2 0 n : S1x8192.Idx) = (Rect.unit (s := S1x8192) ![0, 0] S1x4096.size inb_S1x8192_S1x4096_0_0).emb (ix2 0 ⟨n.val, hn⟩ : S1x4096.Idx) :=
        funext fun a => Fin.ext (by match a with | ⟨0, _⟩ => rfl | ⟨1, _⟩ => show n.val = 0 + 1 * n.val; omega)
      rw [e, View.canon_cons_emb]
      exact half0_at x0 x1 s0 s2 s3 s4 ⟨n.val, hn⟩ n.isLt
    · rw [Rect.mem_set_unit]
      intro h
      have h1 : (4096 : ℕ) ≤ n.val := (h 1).1
      omega
  · obtain ⟨k, hk⟩ : ∃ k : Fin 4096, n.val = 4096 + k.val := ⟨⟨n.val - 4096, by omega⟩, by simp only []; omega⟩
    have hn' : n = ⟨4096 + k.val, by omega⟩ := Fin.ext hk
    have e : (ix2 0 n : S1x8192.Idx) = (Rect.unit (s := S1x8192) ![0, 4096] S1x4096.size inb_S1x8192_S1x4096_0_4096).emb (ix2 0 k : S1x4096.Idx) :=
      funext fun a => Fin.ext (by match a with | ⟨0, _⟩ => rfl | ⟨1, _⟩ => show n.val = 4096 + 1 * k.val; omega)
    rw [e, View.canon_cons_emb, hn']
    exact half1_at x0 x1 s0 s2 s3 s4 k (by omega)

end Out

/-! ## The result array -/

/-- The result array at point `n`, as a function of the region's arrays. -/
theorem result_point (m : (ℓ : Loc nD τ sig) → Buf (Elt Ideal) ℓ) (c : Dev nD) (n : Fin 131072) : result m c (ix2 0 n)
    = pointOut (folded m c) (lastOf (pk m c)) (biasOf (pk m c)) (midOf (pk m c) (d1 m c)) (pk m c (ix2 5 1))
        (pts m c (ix2 0 n)) (pts m c (ix2 1 n)) (pts m c (ix2 2 n)) := by
  have hN : cfg0.N = 16 := N_0
  have hn := n.isLt
  have hlt : n.val / 8192 < cfg0.N := by omega
  have hb (a : Fin 3) : (iblk m c 0 ⟨n.val / 8192, hlt⟩ : Vec Ideal S3x8192 .f32) (ix2 a ⟨n.val % 8192, by omega⟩) = pts m c (ix2 a n) :=
    blk_0 m c _ _ _ rfl (by show n.val = 8192 * (n.val / 8192) + n.val % 8192; omega)
  rw [result_at m c ⟨n.val / 8192, hlt⟩ (ix2 0 ⟨n.val % 8192, by omega⟩) (ix2 0 n) (by show n.val = 8192 * (n.val / 8192) + n.val % 8192; omega)]
  unfold blockOut
  rw [out_at, hb, hb, hb]

end Cert.KernelIdeal.Value

end
-- ==== Proof.Lerp.lean ====
/-
  The mathematics of the two ways to look up a line table, over the reals and the extended reals: summing a table under
  a tent is interpolating between its two neighbouring knots; scaling a row by a reciprocal root is dividing it by the root.
-/
module

public import Idealize.ShloMosaic.PureOps.Ideal
public import Idealize.ShloMosaic.PureOps.Ideal.Laws

@[expose] public section

noncomputable section

open Idealize.ShloMosaic

namespace Cert.Lerp

/-! ## A coordinate, its knot, its fraction -/

/-- A coordinate clipped to the unit interval and stretched over the 64 knots. -/
def coord (x : EReal) : ℝ := (min 1 (max 0 x)).toReal * 63

/-- The clipped coordinate is a real of the unit interval, whatever the coordinate. -/
theorem clip_coe (x : EReal) : ∃ r : ℝ, min 1 (max 0 x) = (r : EReal) ∧ 0 ≤ r ∧ r ≤ 1 := by
  have h0 : (0 : EReal) ≤ min 1 (max 0 x) := le_min zero_le_one (le_max_left _ _)
  have h1 : min 1 (max 0 x) ≤ (1 : EReal) := min_le_left _ _
  have ht : min 1 (max 0 x) ≠ (⊤ : EReal) := fun h => absurd (h ▸ h1) (by simp [← EReal.coe_one])
  have hb : min 1 (max 0 x) ≠ (⊥ : EReal) := fun h => absurd (h ▸ h0) (by simp)
  refine ⟨(min 1 (max 0 x)).toReal, (EReal.coe_toReal ht hb).symm, ?_, ?_⟩
  · exact EReal.toReal_nonneg h0
  · rw [← EReal.coe_le_coe_iff, EReal.coe_toReal ht hb]; exact h1

theorem coord_coe (x : EReal) : min 1 (max 0 x) * ((63 : ℝ) : EReal) = (coord x : EReal) := by
  obtain ⟨r, hr, -, -⟩ := clip_coe x
  unfold coord
  rw [hr, EReal.toReal_coe, ← EReal.coe_mul]

theorem coord_nonneg (x : EReal) : 0 ≤ coord x := by
  obtain ⟨r, hr, h0, -⟩ := clip_coe x
  unfold coord
  rw [hr, EReal.toReal_coe]; positivity

theorem coord_le (x : EReal) : coord x ≤ 63 := by
  obtain ⟨r, hr, -, h1⟩ := clip_coe x
  unfold coord
  rw [hr, EReal.toReal_coe]; linarith

/-- The number of the knot at or before a coordinate is below 64. -/
theorem floor_lt (x : EReal) : ⌊coord x⌋₊ < 64 := by
  have : ⌊coord x⌋₊ ≤ 63 := Nat.floor_le_of_le (by exact_mod_cast coord_le x)
  omega

/-- The knot at or before a coordinate. -/
def cell (x : EReal) : Fin 64 := ⟨⌊coord x⌋₊, floor_lt x⟩
/-- The next knot, the last one being its own next. -/
def next (x : EReal) : Fin 64 := ⟨min (⌊coord x⌋₊ + 1) 63, by omega⟩
/-- How far past its knot a coordinate is. -/
def frac (x : EReal) : ℝ := coord x - (⌊coord x⌋₊ : ℝ)

theorem frac_nonneg (x : EReal) : 0 ≤ frac x := sub_nonneg.2 (Nat.floor_le (coord_nonneg x))
theorem frac_lt (x : EReal) : frac x < 1 := by
  have := Nat.lt_floor_add_one (coord x); unfold frac; linarith
theorem frac_last (x : EReal) (h : ⌊coord x⌋₊ = 63) : frac x = 0 := by
  have h0 := frac_nonneg x
  have h1 := coord_le x
  unfold frac at *
  rw [h] at *
  push_cast at *
  linarith

/-- The tent of a coordinate over a knot. -/
def tent (x : EReal) (l : ℕ) : ℝ := max (1 - |coord x - l|) 0

/-- The tent is the two interpolation weights at the neighbouring knots, and zero elsewhere. -/
theorem tent_eq (x : EReal) (l : ℕ) :
    tent x l = (if l = ⌊coord x⌋₊ then 1 - frac x else 0) + (if l = ⌊coord x⌋₊ + 1 then frac x else 0) := by
  have h0 := frac_nonneg x
  have h1 := frac_lt x
  have hp : coord x = ⌊coord x⌋₊ + frac x := by unfold frac; ring
  unfold tent
  generalize ⌊coord x⌋₊ = n at hp
  generalize frac x = w at *
  rw [hp]
  rcases lt_trichotomy l n with h | h | h
  · have hl : (l : ℝ) + 1 ≤ n := by exact_mod_cast h
    rw [if_neg (by omega), if_neg (by omega), abs_of_nonneg (by linarith), max_eq_right (by linarith), add_zero]
  · subst h
    rw [if_pos rfl, if_neg (by omega), add_sub_cancel_left, abs_of_nonneg h0, max_eq_left (by linarith), add_zero]
  · by_cases e : l = n + 1
    · subst e
      rw [if_neg (by omega), if_pos rfl, zero_add]
      push_cast
      rw [show (n : ℝ) + w - (n + 1) = -(1 - w) by ring, abs_neg, abs_of_nonneg (by linarith), max_eq_left (by linarith)]
      ring
    · have hl : (n : ℝ) + 2 ≤ l := by exact_mod_cast (by omega : n + 2 ≤ l)
      rw [if_neg (by omega), if_neg e, abs_of_nonpos (by linarith), max_eq_right (by linarith), add_zero]

/-- A table interpolated at a coordinate. -/
def lerp (A : Fin 64 → ℝ) (x : EReal) : ℝ := A (cell x) + (A (next x) - A (cell x)) * frac x

/-- Summing a table under the tent interpolates it. -/
theorem sum_tent (A : Fin 64 → ℝ) (x : EReal) : ∑ l : Fin 64, A l * tent x l = lerp A x := by
  have e1 : ∑ l : Fin 64, A l * (if l.val = ⌊coord x⌋₊ then 1 - frac x else 0) = A (cell x) * (1 - frac x) := by
    rw [Finset.sum_eq_single (cell x)]
    · rw [if_pos (show (cell x).val = ⌊coord x⌋₊ from rfl)]
    · intro b _ hb
      rw [if_neg fun h : b.val = ⌊coord x⌋₊ => hb (Fin.ext h), mul_zero]
    · intro h; exact absurd (Finset.mem_univ _) h
  have e2 : ∑ l : Fin 64, A l * (if l.val = ⌊coord x⌋₊ + 1 then frac x else 0) = A (next x) * frac x := by
    by_cases h : ⌊coord x⌋₊ = 63
    · rw [frac_last x h]
      simp
    · have hlt := floor_lt x
      have hn : (next x).val = ⌊coord x⌋₊ + 1 := by show min _ 63 = _; omega
      rw [Finset.sum_eq_single (next x)]
      · rw [if_pos hn]
      · intro b _ hb
        rw [if_neg fun h' => hb (Fin.ext (h'.trans hn.symm)), mul_zero]
      · intro h; exact absurd (Finset.mem_univ _) h
  simp only [tent_eq, mul_add, Finset.sum_add_distrib, e1, e2, lerp]
  ring

/-! ## Sums over 192 columns, band by band -/

/-- A sum over an axis cut in two. -/
theorem sum_cut {M : Type} [AddCommMonoid M] (a b N : ℕ) (h : a + b = N) (f : Fin N → M) :
    ∑ k, f k = ∑ l : Fin a, f ⟨l.val, by omega⟩ + ∑ l : Fin b, f ⟨a + l.val, by omega⟩ := by
  subst h
  rw [Fin.sum_univ_add]
  rfl

/-- 192 columns are three bands of 64. -/
theorem sum_bands {M : Type} [AddCommMonoid M] (f : Fin 192 → M) :
    ∑ k, f k = ∑ l : Fin 64, f ⟨l.val, by omega⟩ + ∑ l : Fin 64, f ⟨64 + l.val, by omega⟩ + ∑ l : Fin 64, f ⟨128 + l.val, by omega⟩ := by
  rw [sum_cut 128 64 192 rfl f, sum_cut 64 64 128 rfl]

/-- 192 columns are six bands of 32. -/
theorem sum_columns {M : Type} [AddCommMonoid M] (f : Fin 192 → M) :
    ∑ k, f k = ∑ l : Fin 32, f ⟨l.val, by omega⟩ + ∑ l : Fin 32, f ⟨32 + l.val, by omega⟩ + ∑ l : Fin 32, f ⟨64 + l.val, by omega⟩
      + ∑ l : Fin 32, f ⟨96 + l.val, by omega⟩ + ∑ l : Fin 32, f ⟨128 + l.val, by omega⟩ + ∑ l : Fin 32, f ⟨160 + l.val, by omega⟩ := by
  rw [sum_cut 160 32 192 rfl f, sum_cut 128 32 160 rfl, sum_cut 96 32 128 rfl, sum_cut 64 32 96 rfl, sum_cut 32 32 64 rfl]

/-- One axis: a folded table under the tent is the interpolated table under the weights. -/
theorem sum_folded (u w : Fin 32 → ℝ) (E J : Fin 64 → Fin 32 → ℝ) (x : EReal) :
    ∑ l : Fin 64, (∑ k, u k * E l k + ∑ k, w k * J l k) * tent x l
      = ∑ k, lerp (fun l => E l k) x * u k + ∑ k, lerp (fun l => J l k) x * w k := by
  have h (u : Fin 32 → ℝ) (E : Fin 64 → Fin 32 → ℝ) :
      ∑ l : Fin 64, (∑ k, u k * E l k) * tent x l = ∑ k, lerp (fun l => E l k) x * u k := by
    simp only [← sum_tent, Finset.sum_mul]
    rw [Finset.sum_comm]
    exact Finset.sum_congr rfl fun k _ => Finset.sum_congr rfl fun l _ => by ring
  simp only [add_mul, Finset.sum_add_distrib, h]

/-! ## Scaling a row to a length -/

/-- Row `v` scaled to length `g`, at `k`: by the reciprocal root of its square sum. -/
def byRsqrt {n : ℕ} (v : Fin n → EReal) (g : EReal) (k : Fin n) : EReal := v k * (g * Ideal.rsqrt (∑ x, v x * v x))
/-- … by dividing by the root. -/
def bySqrt {n : ℕ} (v : Fin n → EReal) (g : EReal) (k : Fin n) : EReal := Ideal.div (g * v k) (Ideal.sqrt (∑ x, v x * v x))

/-- The two agree on a row that is not zero. -/
theorem bySqrt_eq {n : ℕ} (v : Fin n → EReal) (g : EReal) (k : Fin n) (h : 0 < ∑ x, v x * v x) : bySqrt v g k = byRsqrt v g k := by
  unfold bySqrt byRsqrt
  generalize ∑ x, v x * v x = s at h
  induction s with
  | bot => simp at h
  | top => simp [Ideal.div]
  | coe r =>
    have hr : 0 < r := by exact_mod_cast h
    have hs : 0 < Real.sqrt r := Real.sqrt_pos.2 hr
    rw [Ideal.sqrt_coe, Ideal.rsqrt_coe, if_neg (not_lt.2 hr.le), if_neg (not_lt.2 hr.le), if_neg hr.ne', Ideal.div_coe hs.ne', one_div]
    rw [mul_comm g, mul_assoc]

theorem sq_nonneg' (a : EReal) : 0 ≤ a * a := by
  induction a with
  | bot => simp
  | top => simp
  | coe r => rw [← EReal.coe_mul]; exact_mod_cast mul_self_nonneg r

/-- A row that is not zero, scaled to a real length, is real throughout. -/
theorem byRsqrt_coe {n : ℕ} (v : Fin n → EReal) (g : ℝ) (k : Fin n) (h : 0 < ∑ x, v x * v x) : ∃ r : ℝ, byRsqrt v g k = (r : EReal) := by
  unfold byRsqrt
  have hk : v k * v k ≤ ∑ x, v x * v x := Finset.single_le_sum (fun x _ => sq_nonneg' (v x)) (Finset.mem_univ k)
  generalize ∑ x, v x * v x = s at h hk
  induction s with
  | bot => simp at h
  | top => exact ⟨0, by simp⟩
  | coe r =>
    have hr : 0 < r := by exact_mod_cast h
    rw [Ideal.rsqrt_coe, if_neg (not_lt.2 hr.le), if_neg hr.ne']
    generalize v k = a at hk
    induction a with
    | bot => simp at hk
    | top => simp at hk
    | coe a => exact ⟨a * (g * (Real.sqrt r)⁻¹), by push_cast; rfl⟩

end Cert.Lerp

end
-- ==== Proof.RAt.lean ====
/-
  The reference's arrays read at an index over the extended reals: a table gathered at a point's two knots and
  interpolated, the joined features, the normalised weights, and from them the result.
-/
module

public import proofs.«01_k».proof.Proof.Lerp
public import proofs.«01_k».proof.Proof.Gen.ReferenceIdeal.Read
public import Idealize.ShloMosaic.Lib.Pointwise
public import Idealize.ShloMosaic.Lib.IdealHost
public import Idealize.ShloMosaic.Lib.Routing.Ops

@[expose] public section

noncomputable section

open Idealize.ShloMosaic Idealize.ShloMosaic.TcCoe Idealize.SL.Sem

namespace Cert.ReferenceIdeal.Read

open Cert.ReferenceIdeal Cert.ReferenceIdeal.Gen Cert.Lerp

/-- The stretch constant is 63. -/
theorem ofBits_63 : Ideal.ofBits .f32 0x427C0000#32 = ((63 : ℝ) : EReal) := by
  simp [Ideal.ofBits, Ideal.ieee]
  rw [← EReal.coe_mul]
  norm_num

/-! ## The knot numbers as words -/

/-- Rounding a coordinate down and converting it gives its knot's number. -/
theorem floor_word (x : EReal) :
    FloatOps.fptosi (F := Ideal) (φ := .f32) 32 (Ideal.liftRound Int.floor ((coord x : ℝ) : EReal)) = BitVec.ofNat 32 ⌊coord x⌋₊ := by
  have h0 := coord_nonneg x
  have hlt := floor_lt x
  have hf : (⌊coord x⌋ : ℤ) = (⌊coord x⌋₊ : ℤ) := (Int.natCast_floor_eq_floor h0).symm
  show Ideal.fptosi 32 (((⌊coord x⌋ : ℤ) : ℝ) : EReal) = _
  rw [hf]
  unfold Ideal.fptosi
  rw [Ideal.toIntClamped_coe, if_pos (by positivity)]
  have : ⌊(((⌊coord x⌋₊ : ℤ)) : ℝ)⌋ = (⌊coord x⌋₊ : ℤ) := Int.floor_intCast _
  rw [this, min_eq_right (by norm_num; omega), max_eq_right (by norm_num)]
  exact BitVec.ofInt_natCast 32 _

/-- A knot's number converts to itself. -/
theorem toInt_small (n : ℕ) (h : n < 64) : (BitVec.ofNat 32 n).toInt = n := by
  have : ∀ k : Fin 64, (BitVec.ofNat 32 k.val).toInt = (k.val : ℤ) := by decide
  exact this ⟨n, h⟩

/-- A row number that is not negative is taken as it is. -/
theorem wrap_small (n : ℕ) (h : n < 64) :
    Scalar.select (IntOp.cmpi .slt (BitVec.ofNat 32 n) 0#32) (IntOp.addi (BitVec.ofNat 32 n) 64#32) (BitVec.ofNat 32 n) = BitVec.ofNat 32 n := by
  have : ∀ k : Fin 64, Scalar.select (IntOp.cmpi .slt (BitVec.ofNat 32 k.val) 0#32) (IntOp.addi (BitVec.ofNat 32 k.val) 64#32) (BitVec.ofNat 32 k.val)
      = BitVec.ofNat 32 k.val := by decide
  exact this ⟨n, h⟩

/-- The number after a knot's, at most 63. -/
theorem next_small (n : ℕ) (h : n < 64) : IntOp.minsi (IntOp.addi (BitVec.ofNat 32 n) 1#32) 63#32 = BitVec.ofNat 32 (min (n + 1) 63) := by
  have : ∀ k : Fin 64, IntOp.minsi (IntOp.addi (BitVec.ofNat 32 k.val) 1#32) 63#32 = BitVec.ofNat 32 (min (k.val + 1) 63) := by decide
  exact this ⟨n, h⟩

/-! ## One table looked up along one axis -/

section Axis
variable (T : FVec Ideal S64x32 .f32) (p : FVec Ideal S131072 .f32)

/-- The coordinates, clipped and stretched over the knots. -/
def stretched : FVec Ideal S131072 .f32 :=
  mulf (minimumf (broadcastInDim S131072 ![] bcast_S_S131072 (constant S_ .f32 0x3F800000#32))
    (maximumf (broadcastInDim S131072 ![] bcast_S_S131072 (constant S_ .f32 0x00000000#32)) p))
    (broadcastInDim S131072 ![] bcast_S_S131072 (constant S_ .f32 0x427C0000#32))
/-- Their knots' numbers. -/
def knot : IVec S131072 32 := fptosi 32 (Host.floor (stretched p))
/-- The next knots' numbers. -/
def nextKnot : IVec S131072 32 :=
  minsi (addi (knot p) (broadcastInDim S131072 ![] bcast_S_S131072 (constantI S_ 32 1#32)))
    (broadcastInDim S131072 ![] bcast_S_S131072 (constantI S_ 32 63#32))
/-- Row numbers as a gather takes them, a negative one counted from the end. -/
def rowsOf (k : IVec S131072 32) : IVec S131072x1 32 :=
  broadcastInDim S131072x1 ![0] bcast_S131072_S131072x1_0
    (select (cmpi .slt k (broadcastInDim S131072 ![] bcast_S_S131072 (constantI S_ 32 0#32)))
      (addi k (broadcastInDim S131072 ![] bcast_S_S131072 (constantI S_ 32 64#32))) k)
/-- The table's rows at the points. -/
def taken (k : IVec S131072 32) : FVec Ideal S131072x32 .f32 :=
  Host.gather gather_S64x32_S131072x1_S131072x32_1_0_n_n_0_1_132 T (rowsOf k)
/-- The table interpolated at the points. -/
def interpolated : FVec Ideal S131072x32 .f32 :=
  addf (taken T (knot p)) (mulf (subf (taken T (nextKnot p)) (taken T (knot p)))
    (broadcastInDim S131072x32 ![0, 1] bcast_S131072x1_S131072x32_0_1
      (broadcastInDim S131072x1 ![0] bcast_S131072_S131072x1_0 (subf (stretched p) (sitofp .f32 (knot p))))))

theorem stretched_at (n : Fin 131072) : stretched p (ix1 n) = ((coord (p (ix1 n)) : ℝ) : EReal) := by
  unfold stretched
  pointwise []
  rw [ofBits_63, coord_coe]

theorem knot_at (n : Fin 131072) : knot p (ix1 n) = BitVec.ofNat 32 ⌊coord (p (ix1 n))⌋₊ := by
  unfold knot
  pointwise []
  rw [stretched_at, floor_word]

theorem nextKnot_at (n : Fin 131072) : nextKnot p (ix1 n) = BitVec.ofNat 32 (next (p (ix1 n))).val := by
  unfold nextKnot
  pointwise []
  rw [knot_at, next_small _ (floor_lt _)]
  rfl

theorem taken_at (k : IVec S131072 32) (n : Fin 131072) (q : Fin 32) (l : Fin 64) (h : k (ix1 n) = BitVec.ofNat 32 l.val) :
    taken T k (ix2 n q) = T (ix2 l q) := by
  have hr : rowsOf k (ix2 n 0) = BitVec.ofNat 32 l.val := by
    unfold rowsOf
    pointwise []
    rw [h, wrap_small _ l.isLt]
  exact Routing.gather_row gather_S64x32_S131072x1_S131072x32_1_0_n_n_0_1_132 rfl rfl rfl rfl rfl T (rowsOf k) n q l hr (by norm_num)

/-- A table of reals, interpolated at a point. -/
theorem interpolated_at (n : Fin 131072) (q : Fin 32) (A : Fin 64 → ℝ) (hA : ∀ l, T (ix2 l q) = ((A l : ℝ) : EReal)) :
    interpolated T p (ix2 n q) = ((lerp A (p (ix1 n)) : ℝ) : EReal) := by
  unfold interpolated
  pointwise []
  rw [taken_at T (knot p) n q (cell (p (ix1 n))) (knot_at p n), taken_at T (nextKnot p) n q _ (nextKnot_at p n), stretched_at, knot_at, hA, hA,
    show FloatOps.sitofp (F := Ideal) .f32 (BitVec.ofNat 32 ⌊coord (p (ix1 n))⌋₊) = (((BitVec.ofNat 32 ⌊coord (p (ix1 n))⌋₊).toInt : ℝ) : EReal) from rfl,
    toInt_small _ (floor_lt _)]
  unfold lerp frac
  push_cast
  rfl

end Axis

/-! ## The six lookups are interpolations -/

section Features
variable (x0 : FVec Ideal S80 .f32) (x1 : FVec Ideal S16x1 .f32) (x2 : FVec Ideal S131072x3 .f32) (x3 x4 x5 : FVec Ideal S96x64x32 .f32)

theorem v44_eq : val_main_v44 (F := Ideal) x0 x2 x3 = interpolated (val_main_v2 (F := Ideal) x0 x3) (val_main_v14 (F := Ideal) x2) := rfl
theorem v62_eq : val_main_v62 (F := Ideal) x1 x2 x3 = interpolated (val_main_v8 (F := Ideal) x1 x3) (val_main_v14 (F := Ideal) x2) := rfl
theorem v94_eq : val_main_v94 (F := Ideal) x0 x2 x4 = interpolated (val_main_v4 (F := Ideal) x0 x4) (val_main_v64 (F := Ideal) x2) := rfl
theorem v112_eq : val_main_v112 (F := Ideal) x1 x2 x4 = interpolated (val_main_v10 (F := Ideal) x1 x4) (val_main_v64 (F := Ideal) x2) := rfl
theorem v144_eq : val_main_v144 (F := Ideal) x0 x2 x5 = interpolated (val_main_v6 (F := Ideal) x0 x5) (val_main_v114 (F := Ideal) x2) := rfl
theorem v162_eq : val_main_v162 (F := Ideal) x1 x2 x5 = interpolated (val_main_v12 (F := Ideal) x1 x5) (val_main_v114 (F := Ideal) x2) := rfl

theorem v14_at (n : Fin 131072) : val_main_v14 (F := Ideal) x2 (ix1 n) = x2 (ix2 n 0) := by pointwise [val_main_v14, val_main_v13]
theorem v64_at (n : Fin 131072) : val_main_v64 (F := Ideal) x2 (ix1 n) = x2 (ix2 n 1) := by pointwise [val_main_v64, val_main_v63]
theorem v114_at (n : Fin 131072) : val_main_v114 (F := Ideal) x2 (ix1 n) = x2 (ix2 n 2) := by pointwise [val_main_v114, val_main_v113]

/-- A table's expression part at a knot and column. -/
def exprSum (x0 : FVec Ideal S80 .f32) (x : FVec Ideal S96x64x32 .f32) (l : Fin 64) (q : Fin 32) : EReal :=
  ∑ i : Fin 80, x (ix3 ⟨i.val, by omega⟩ l q) * x0 (ix1 i)
/-- A table's jaw part at a knot and column. -/
def jawSum (x1 : FVec Ideal S16x1 .f32) (x : FVec Ideal S96x64x32 .f32) (l : Fin 64) (q : Fin 32) : EReal :=
  ∑ i : Fin 16, x (ix3 ⟨80 + i.val, by omega⟩ l q) * x1 (ix2 i 0)

theorem v2_at (l : Fin 64) (q : Fin 32) : val_main_v2 (F := Ideal) x0 x3 (ix2 l q) = exprSum x0 x3 l q := by
  unfold exprSum
  pointwise [val_main_v2, val_main_v1]
theorem v4_at (l : Fin 64) (q : Fin 32) : val_main_v4 (F := Ideal) x0 x4 (ix2 l q) = exprSum x0 x4 l q := by
  unfold exprSum
  pointwise [val_main_v4, val_main_v3]
theorem v6_at (l : Fin 64) (q : Fin 32) : val_main_v6 (F := Ideal) x0 x5 (ix2 l q) = exprSum x0 x5 l q := by
  unfold exprSum
  pointwise [val_main_v6, val_main_v5]
theorem v8_at (l : Fin 64) (q : Fin 32) : val_main_v8 (F := Ideal) x1 x3 (ix2 l q) = jawSum x1 x3 l q := by
  unfold jawSum
  pointwise [val_main_v8, val_main_v7, val_main_v0]
theorem v10_at (l : Fin 64) (q : Fin 32) : val_main_v10 (F := Ideal) x1 x4 (ix2 l q) = jawSum x1 x4 l q := by
  unfold jawSum
  pointwise [val_main_v10, val_main_v9, val_main_v0]
theorem v12_at (l : Fin 64) (q : Fin 32) : val_main_v12 (F := Ideal) x1 x5 (ix2 l q) = jawSum x1 x5 l q := by
  unfold jawSum
  pointwise [val_main_v12, val_main_v11, val_main_v0]

/-- The joined features under a column of weights, band by band. -/
theorem features_sum (n : Fin 131072) (W : Fin 192 → EReal) :
    ∑ k : Fin 192, val_main_v163 (F := Ideal) x0 x1 x2 x3 x4 x5 (ix2 n k) * W k
      = ∑ q : Fin 32, val_main_v44 (F := Ideal) x0 x2 x3 (ix2 n q) * W ⟨q.val, by omega⟩
        + ∑ q : Fin 32, val_main_v94 (F := Ideal) x0 x2 x4 (ix2 n q) * W ⟨32 + q.val, by omega⟩
        + ∑ q : Fin 32, val_main_v144 (F := Ideal) x0 x2 x5 (ix2 n q) * W ⟨64 + q.val, by omega⟩
        + ∑ q : Fin 32, val_main_v62 (F := Ideal) x1 x2 x3 (ix2 n q) * W ⟨96 + q.val, by omega⟩
        + ∑ q : Fin 32, val_main_v112 (F := Ideal) x1 x2 x4 (ix2 n q) * W ⟨128 + q.val, by omega⟩
        + ∑ q : Fin 32, val_main_v162 (F := Ideal) x1 x2 x5 (ix2 n q) * W ⟨160 + q.val, by omega⟩ := by
  have band (k : ℕ) (h : k < 192) : val_main_v163 (F := Ideal) x0 x1 x2 x3 x4 x5 (ix2 n ⟨k, h⟩)
      = if h1 : k < 32 then val_main_v44 (F := Ideal) x0 x2 x3 (ix2 n ⟨k, h1⟩)
        else if h2 : k - 32 < 32 then val_main_v94 (F := Ideal) x0 x2 x4 (ix2 n ⟨k - 32, h2⟩)
        else if h3 : k - 32 - 32 < 32 then val_main_v144 (F := Ideal) x0 x2 x5 (ix2 n ⟨k - 32 - 32, h3⟩)
        else if h4 : k - 32 - 32 - 32 < 32 then val_main_v62 (F := Ideal) x1 x2 x3 (ix2 n ⟨k - 32 - 32 - 32, h4⟩)
        else if h5 : k - 32 - 32 - 32 - 32 < 32 then val_main_v112 (F := Ideal) x1 x2 x4 (ix2 n ⟨k - 32 - 32 - 32 - 32, h5⟩)
        else val_main_v162 (F := Ideal) x1 x2 x5 (ix2 n ⟨k - 32 - 32 - 32 - 32 - 32, by omega⟩) := by
    pointwise [val_main_v163]
  have b0 (q : Fin 32) : val_main_v163 (F := Ideal) x0 x1 x2 x3 x4 x5 (ix2 n ⟨q.val, by omega⟩) = val_main_v44 (F := Ideal) x0 x2 x3 (ix2 n q) := by
    rw [band, dif_pos q.isLt]
  have b1 (q : Fin 32) : val_main_v163 (F := Ideal) x0 x1 x2 x3 x4 x5 (ix2 n ⟨32 + q.val, by omega⟩) = val_main_v94 (F := Ideal) x0 x2 x4 (ix2 n q) := by
    rw [band]
    split_ifs <;> first | omega | exact congrArg (fun a => val_main_v94 (F := Ideal) x0 x2 x4 (ix2 n a)) (Fin.ext (by dsimp only; omega))
  have b2 (q : Fin 32) : val_main_v163 (F := Ideal) x0 x1 x2 x3 x4 x5 (ix2 n ⟨64 + q.val, by omega⟩) = val_main_v144 (F := Ideal) x0 x2 x5 (ix2 n q) := by
    rw [band]
    split_ifs <;> first | omega | exact congrArg (fun a => val_main_v144 (F := Ideal) x0 x2 x5 (ix2 n a)) (Fin.ext (by dsimp only; omega))
  have b3 (q : Fin 32) : val_main_v163 (F := Ideal) x0 x1 x2 x3 x4 x5 (ix2 n ⟨96 + q.val, by omega⟩) = val_main_v62 (F := Ideal) x1 x2 x3 (ix2 n q) := by
    rw [band]
    split_ifs <;> first | omega | exact congrArg (fun a => val_main_v62 (F := Ideal) x1 x2 x3 (ix2 n a)) (Fin.ext (by dsimp only; omega))
  have b4 (q : Fin 32) : val_main_v163 (F := Ideal) x0 x1 x2 x3 x4 x5 (ix2 n ⟨128 + q.val, by omega⟩) = val_main_v112 (F := Ideal) x1 x2 x4 (ix2 n q) := by
    rw [band]
    split_ifs <;> first | omega | exact congrArg (fun a => val_main_v112 (F := Ideal) x1 x2 x4 (ix2 n a)) (Fin.ext (by dsimp only; omega))
  have b5 (q : Fin 32) : val_main_v163 (F := Ideal) x0 x1 x2 x3 x4 x5 (ix2 n ⟨160 + q.val, by omega⟩) = val_main_v162 (F := Ideal) x1 x2 x5 (ix2 n q) := by
    rw [band]
    split_ifs <;> first | omega | exact congrArg (fun a => val_main_v162 (F := Ideal) x1 x2 x5 (ix2 n a)) (Fin.ext (by dsimp only; omega))
  rw [sum_columns]
  simp only [b0, b1, b2, b3, b4, b5]

end Features

/-! ## The weights and the result -/

/-- The reference at a point, its first layer's features still one array. -/
theorem result_at (x0 : FVec Ideal S80 .f32) (x1 : FVec Ideal S16x1 .f32) (x2 : FVec Ideal S131072x3 .f32) (x3 x4 x5 : FVec Ideal S96x64x32 .f32)
    (x6 : FVec Ideal S128x192 .f32) (x7 x8 : FVec Ideal S128 .f32) (x9 : FVec Ideal S128x128 .f32) (x10 x11 : FVec Ideal S128 .f32)
    (x12 : FVec Ideal S1x128 .f32) (x13 x14 : FVec Ideal S1 .f32) (n : Fin 131072) :
    val_main_v198 (F := Ideal) x0 x1 x2 x3 x4 x5 x6 x7 x8 x9 x10 x11 x12 x13 x14 (ix2 n 0)
      = ∑ p : Fin 128, max (∑ q : Fin 128, max (∑ k : Fin 192, val_main_v163 (F := Ideal) x0 x1 x2 x3 x4 x5 (ix2 n k)
              * bySqrt (fun k => x6 (ix2 q k)) (x7 (ix1 q)) k + x8 (ix1 q)) 0
            * bySqrt (fun q => x9 (ix2 p q)) (x10 (ix1 p)) q + x11 (ix1 p)) 0
          * bySqrt (fun p => x12 (ix2 0 p)) (x13 (ix1 0)) p + x14 (ix1 0) := by
  have h0 (q : Fin 128) (k : Fin 192) : val_main_v169 (F := Ideal) x6 x7 (ix2 q k) = bySqrt (fun k => x6 (ix2 q k)) (x7 (ix1 q)) k := by
    unfold bySqrt
    pointwise [val_main_v169, val_main_v168, val_main_v167, val_main_v166, val_main_v165, val_main_v164, val_main_call3_v0, val_main_call3_v1,
      val_main_call3_v2, val_main_call3_cst]
  have h1 (p : Fin 128) (q : Fin 128) : val_main_v181 (F := Ideal) x9 x10 (ix2 p q) = bySqrt (fun q => x9 (ix2 p q)) (x10 (ix1 p)) q := by
    unfold bySqrt
    pointwise [val_main_v181, val_main_v180, val_main_v179, val_main_v178, val_main_v177, val_main_v176, val_main_call5_v0, val_main_call5_v1,
      val_main_call5_v2, val_main_call5_cst]
  have h2 (p : Fin 128) : val_main_v193 (F := Ideal) x12 x13 (ix2 0 p) = bySqrt (fun p => x12 (ix2 0 p)) (x13 (ix1 0)) p := by
    unfold bySqrt
    pointwise [val_main_v193, val_main_v192, val_main_v191, val_main_v190, val_main_v189, val_main_v188, val_main_call7_v0, val_main_call7_v1,
      val_main_call7_v2, val_main_call7_cst]
  pointwise [val_main_v198, val_main_v197, val_main_v196, val_main_v195, val_main_v194, val_main_v187, val_main_v186, val_main_v185, val_main_v184,
    val_main_v183, val_main_v182, val_main_v175, val_main_v174, val_main_v173, val_main_v172, val_main_v171, val_main_v170, val_main_call6_v0,
    val_main_call4_v0, val_main_call4_cst, val_main_call6_cst]
  simp only [h0, h1, h2]

end Cert.ReferenceIdeal.Read

end
-- ==== Proof.Tame.lean ====
/-
  What the precondition says of the arrays: the expression, the jaw, the three tables and the first layer's lengths are
  real numbers, and no row of weights has length zero.
-/
module

public import proofs.«01_k».proof.Defs
public import proofs.«01_k».proof.Proof.Gen.Pre_tame
public import Idealize.ShloMosaic.Lib.Pointwise
public import Idealize.ShloMosaic.PureOps.Ideal.Laws

@[expose] public section

noncomputable section

open Idealize.ShloMosaic Idealize.ShloMosaic.TcCoe Idealize.SL.Sem

namespace Cert.Tame

open Cert.Pre_tame Cert.Pre_tame.Gen

/-- The infinity pattern is the top of the order. -/
theorem ofBits_top : Ideal.ofBits .f32 0x7F800000#32 = (⊤ : EReal) := by
  simp [Ideal.ofBits, Ideal.ieee]

/-- A one-bit word made from a decision is one exactly when the decision is true. -/
theorem of_mask {p : Prop} [Decidable p] (h : BitVec.ofBool (decide p) = 1#1) : p := by
  by_contra hp
  simp [hp] at h

/-- A value whose absolute value is below infinity is a real. -/
theorem real_of_abs (x : EReal) (h : max x (-x) < ⊤) : ∃ r : ℝ, x = (r : EReal) := by
  have ht : x ≠ ⊤ := fun e => by simp [e] at h
  have hb : x ≠ ⊥ := fun e => by simp [e] at h
  exact ⟨x.toReal, (EReal.coe_toReal ht hb).symm⟩

/-- An array whose finiteness mask is all ones holds reals. -/
theorem real_at {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) :
    ∃ r : ℝ, x i = (r : EReal) := by
  have hi : Ideal.cmp .olt (max (x i) (-(x i))) (Ideal.ofBits .f32 0x7F800000#32) = 1#1 := congrFun h i
  rw [ofBits_top] at hi
  exact real_of_abs _ (of_mask hi)

section Reads
variable (x0 : FVec Ideal S80 .f32) (x1 : FVec Ideal S16x1 .f32) (x2 : FVec Ideal S131072x3 .f32) (x3 x4 x5 : FVec Ideal S96x64x32 .f32)
  (x6 : FVec Ideal S128x192 .f32) (x7 x8 : FVec Ideal S128 .f32) (x9 : FVec Ideal S128x128 .f32) (x10 x11 : FVec Ideal S128 .f32)
  (x12 : FVec Ideal S1x128 .f32) (x13 x14 : FVec Ideal S1 .f32)

/-- The precondition's nine masks, all ones. -/
def Masks : Prop :=
  let f := Cert.Pre_tame.fn (F := Ideal) x0 x1 x2 x3 x4 x5 x6 x7 x8 x9 x10 x11 x12 x13 x14
  f.1 = (fun _ => 1#1) ∧ f.2.1 = (fun _ => 1#1) ∧ f.2.2.1 = (fun _ => 1#1) ∧ f.2.2.2.1 = (fun _ => 1#1) ∧ f.2.2.2.2.1 = (fun _ => 1#1)
    ∧ f.2.2.2.2.2.1 = (fun _ => 1#1) ∧ f.2.2.2.2.2.2.1 = (fun _ => 1#1) ∧ f.2.2.2.2.2.2.2.1 = (fun _ => 1#1) ∧ f.2.2.2.2.2.2.2.2 = (fun _ => 1#1)

/-- What the masks say. -/
structure Facts : Prop where
  expr : ∀ i : Fin 80, ∃ r : ℝ, x0 (ix1 i) = (r : EReal)
  jaw : ∀ i : Fin 16, ∃ r : ℝ, x1 (ix2 i 0) = (r : EReal)
  flx : ∀ (i : Fin 96) (l : Fin 64) (k : Fin 32), ∃ r : ℝ, x3 (ix3 i l k) = (r : EReal)
  fly : ∀ (i : Fin 96) (l : Fin 64) (k : Fin 32), ∃ r : ℝ, x4 (ix3 i l k) = (r : EReal)
  flz : ∀ (i : Fin 96) (l : Fin 64) (k : Fin 32), ∃ r : ℝ, x5 (ix3 i l k) = (r : EReal)
  len0 : ∀ j : Fin 128, ∃ r : ℝ, x7 (ix1 j) = (r : EReal)
  row0 : ∀ j : Fin 128, 0 < ∑ k : Fin 192, x6 (ix2 j k) * x6 (ix2 j k)
  row1 : ∀ j : Fin 128, 0 < ∑ k : Fin 128, x9 (ix2 j k) * x9 (ix2 j k)
  row2 : 0 < ∑ k : Fin 128, x12 (ix2 0 k) * x12 (ix2 0 k)

theorem row0_at (j : Fin 128) (h : cmpf .ogt (Host.reduceAdd (mulf x6 x6) (constant (F := Ideal) S_ .f32 0x00000000#32) reducesTo_S128x192_S128_d1 h_S_)
    (broadcastInDim S128 ![] bcast_S_S128 (constant (F := Ideal) S_ .f32 0x00000000#32)) = fun _ => 1#1) :
    0 < ∑ k : Fin 192, x6 (ix2 j k) * x6 (ix2 j k) := by
  have e : (Host.reduceAdd (mulf x6 x6) (constant (F := Ideal) S_ .f32 0x00000000#32) reducesTo_S128x192_S128_d1 h_S_ : FVec Ideal S128 .f32) (ix1 j)
      = ∑ k : Fin 192, x6 (ix2 j k) * x6 (ix2 j k) := by pointwise []
  have hi : Ideal.cmp .ogt _ (Ideal.ofBits .f32 0x00000000#32) = 1#1 := congrFun h (ix1 j)
  rw [e, Ideal.ofBits_zero_f32] at hi
  exact of_mask hi

theorem row1_at (j : Fin 128) (h : cmpf .ogt (Host.reduceAdd (mulf x9 x9) (constant (F := Ideal) S_ .f32 0x00000000#32) reducesTo_S128x128_S128_d1 h_S_)
    (broadcastInDim S128 ![] bcast_S_S128 (constant (F := Ideal) S_ .f32 0x00000000#32)) = fun _ => 1#1) :
    0 < ∑ k : Fin 128, x9 (ix2 j k) * x9 (ix2 j k) := by
  have e : (Host.reduceAdd (mulf x9 x9) (constant (F := Ideal) S_ .f32 0x00000000#32) reducesTo_S128x128_S128_d1 h_S_ : FVec Ideal S128 .f32) (ix1 j)
      = ∑ k : Fin 128, x9 (ix2 j k) * x9 (ix2 j k) := by pointwise []
  have hi : Ideal.cmp .ogt _ (Ideal.ofBits .f32 0x00000000#32) = 1#1 := congrFun h (ix1 j)
  rw [e, Ideal.ofBits_zero_f32] at hi
  exact of_mask hi

theorem row2_at (h : cmpf .ogt (Host.reduceAdd (mulf x12 x12) (constant (F := Ideal) S_ .f32 0x00000000#32) reducesTo_S1x128_S1_d1 h_S_)
    (broadcastInDim S1 ![] bcast_S_S1 (constant (F := Ideal) S_ .f32 0x00000000#32)) = fun _ => 1#1) :
    0 < ∑ k : Fin 128, x12 (ix2 0 k) * x12 (ix2 0 k) := by
  have e : (Host.reduceAdd (mulf x12 x12) (constant (F := Ideal) S_ .f32 0x00000000#32) reducesTo_S1x128_S1_d1 h_S_ : FVec Ideal S1 .f32) (ix1 0)
      = ∑ k : Fin 128, x12 (ix2 0 k) * x12 (ix2 0 k) := by pointwise []
  have hi : Ideal.cmp .ogt _ (Ideal.ofBits .f32 0x00000000#32) = 1#1 := congrFun h (ix1 0)
  rw [e, Ideal.ofBits_zero_f32] at hi
  exact of_mask hi

/-- The masks all ones, the facts hold. -/
theorem facts_of_masks (h : Masks x0 x1 x2 x3 x4 x5 x6 x7 x8 x9 x10 x11 x12 x13 x14) : Facts x0 x1 x3 x4 x5 x6 x7 x9 x12 := by
  obtain ⟨h0, h1, h2, h3, h4, h5, h6, h7, h8⟩ := h
  exact {
    expr := fun i => real_at x0 bcast_S_S80 h0 (ix1 i)
    jaw := fun i => real_at x1 bcast_S_S16x1 h1 (ix2 i 0)
    flx := fun i l k => real_at x3 bcast_S_S96x64x32 h2 (ix3 i l k)
    fly := fun i l k => real_at x4 bcast_S_S96x64x32 h3 (ix3 i l k)
    flz := fun i l k => real_at x5 bcast_S_S96x64x32 h4 (ix3 i l k)
    len0 := fun j => real_at x7 bcast_S_S128 h5 (ix1 j)
    row0 := fun j => row0_at x6 j h6
    row1 := fun j => row1_at x9 j h7
    row2 := row2_at x12 h8 }

end Reads

end Cert.Tame

end
-- ==== Proof.Same.lean ====
/-
  The equation: the kernel's value at a point is the reference's. The first layer is folded into the tables before the
  lookup by the one and after it by the other, over the reals; the other two layers differ in how a row is normalised.
-/
module

public import proofs.«01_k».proof.Proof.KAt
public import proofs.«01_k».proof.Proof.RAt
public import proofs.«01_k».proof.Proof.Tame

@[expose] public section

noncomputable section

open Idealize.ShloMosaic Idealize.ShloMosaic.TcCoe Idealize.SL.Sem

namespace Cert.Same

open Cert.Lerp Cert.KernelIdeal.Value Cert.ReferenceIdeal.Read

/-! ## Reals inside the extended reals -/

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals is the larger of them as extended reals. -/
theorem coe_max (a b : ℝ) : ((max a b : ℝ) : EReal) = max (a : EReal) (b : EReal) := EReal.coe_strictMono.monotone.map_max

/-- The kernel's tent is the real one. -/
theorem tentE_coe (x : EReal) (l : Fin 64) : tentE x l.val = ((tent x l.val : ℝ) : EReal) := by
  unfold tentE tent
  rw [ofBits_63, coord_coe,
    show FloatOps.sitofp (F := Ideal) .f32 (BitVec.ofNat 32 l.val) = (((BitVec.ofNat 32 l.val).toInt : ℝ) : EReal) from rfl,
    toInt_small _ l.isLt, show ∀ a : EReal, FloatOps.absf (F := Ideal) (φ := .f32) a = max a (-a) from fun _ => rfl, abs_eq_max_neg]
  push_cast [coe_max]
  rfl

/-! ## One axis -/

section Axis
variable (e : Fin 80 → ℝ) (w : Fin 16 → ℝ) (t : Fin 96 → Fin 64 → Fin 32 → ℝ)

/-- A real table's expression part. -/
def exprR (l : Fin 64) (k : Fin 32) : ℝ := ∑ i : Fin 80, t ⟨i.val, by omega⟩ l k * e i
/-- A real table's jaw part. -/
def jawR (l : Fin 64) (k : Fin 32) : ℝ := ∑ i : Fin 16, t ⟨80 + i.val, by omega⟩ l k * w i

/-- The kernel's folded table of an axis under the tents of a coordinate. -/
theorem folded_sum (x1 : Vec Ideal KernelIdeal.S8x128 .f32) (x4 : Vec Ideal KernelIdeal.S6144x32 .f32) (x5 : Vec Ideal KernelIdeal.S128x192 .f32)
    (o : ℕ) (ho : o + 128 ≤ 192) (j : Fin 128) (u v : Fin 32 → ℝ) (x : EReal)
    (hu : ∀ k : Fin 32, scaled (fun k => x5 (ix2 j k)) (x1 (ix2 0 j)) ⟨o + k.val, by omega⟩ = (u k : EReal))
    (hv : ∀ k : Fin 32, scaled (fun k => x5 (ix2 j k)) (x1 (ix2 0 j)) ⟨96 + o + k.val, by omega⟩ = (v k : EReal))
    (he : ∀ i : Fin 80, x1 (ix2 6 ⟨i.val, by omega⟩) = (e i : EReal))
    (hw : ∀ i : Fin 16, x1 (ix2 7 ⟨i.val, by omega⟩) = (w i : EReal))
    (ht : ∀ (i : Fin 96) (l : Fin 64) (k : Fin 32) (h : i.val * 64 + l.val < 6144), x4 (ix2 ⟨i.val * 64 + l.val, h⟩ k) = (t i l k : EReal)) :
    ∑ l : Fin 64, foldedAxis x1 x4 x5 o ho j l * tentE x l.val
      = ((∑ k, lerp (fun l => exprR e t l k) x * u k + ∑ k, lerp (fun l => jawR w t l k) x * v k : ℝ) : EReal) := by
  rw [← sum_folded u v (exprR e t) (jawR w t) x, coe_sum]
  refine Finset.sum_congr rfl fun l _ => ?_
  rw [tentE_coe, EReal.coe_mul]
  congr 1
  unfold foldedAxis exprR jawR
  rw [EReal.coe_add, coe_sum, coe_sum]
  congr 1
  · refine Finset.sum_congr rfl fun k _ => ?_
    rw [hu, EReal.coe_mul, coe_sum]
    congr 1
    refine Finset.sum_congr rfl fun i _ => ?_
    rw [EReal.coe_mul, he, ← ht ⟨i.val, by omega⟩ l k (by dsimp only; omega)]
  · refine Finset.sum_congr rfl fun k _ => ?_
    rw [hv, EReal.coe_mul, coe_sum]
    congr 1
    refine Finset.sum_congr rfl fun i _ => ?_
    rw [EReal.coe_mul, hw, ← ht ⟨80 + i.val, by omega⟩ l k (by dsimp only; omega)]

variable (x0 : FVec Ideal ReferenceIdeal.S80 .f32) (x1 : FVec Ideal ReferenceIdeal.S16x1 .f32) (x : FVec Ideal ReferenceIdeal.S96x64x32 .f32)

/-- The reference's expression part of a real table. -/
theorem exprSum_coe (he : ∀ i, x0 (ix1 i) = (e i : EReal)) (ht : ∀ i l k, x (ix3 i l k) = (t i l k : EReal)) (l : Fin 64) (k : Fin 32) :
    exprSum x0 x l k = ((exprR e t l k : ℝ) : EReal) := by
  unfold exprSum exprR
  rw [coe_sum]
  exact Finset.sum_congr rfl fun i _ => by rw [EReal.coe_mul, he, ht]

/-- The reference's jaw part of a real table. -/
theorem jawSum_coe (hw : ∀ i, x1 (ix2 i 0) = (w i : EReal)) (ht : ∀ i l k, x (ix3 i l k) = (t i l k : EReal)) (l : Fin 64) (k : Fin 32) :
    jawSum x1 x l k = ((jawR w t l k : ℝ) : EReal) := by
  unfold jawSum jawR
  rw [coe_sum]
  exact Finset.sum_congr rfl fun i _ => by rw [EReal.coe_mul, hw, ht]

/-- The reference's interpolated columns of a real table under real weights. -/
theorem columns_sum (T : FVec Ideal ReferenceIdeal.S64x32 .f32) (p : FVec Ideal ReferenceIdeal.S131072 .f32) (n : Fin 131072)
    (A : Fin 64 → Fin 32 → ℝ) (hA : ∀ l k, T (ix2 l k) = ((A l k : ℝ) : EReal)) (W : Fin 32 → EReal) (u : Fin 32 → ℝ) (hW : ∀ k, W k = (u k : EReal)) :
    ∑ k : Fin 32, interpolated T p (ix2 n k) * W k = ((∑ k, lerp (fun l => A l k) (p (ix1 n)) * u k : ℝ) : EReal) := by
  rw [coe_sum]
  refine Finset.sum_congr rfl fun k _ => ?_
  rw [interpolated_at T p n k (fun l => A l k) (fun l => hA l k), hW, EReal.coe_mul]

end Axis

/-- A row laid out as a column, at a point. -/
theorem column_at (x : FVec Ideal KernelIdeal.S1x131072 .f32) (n : Fin 131072) :
    (shapeCast KernelIdeal.S131072x1 x KernelIdeal.Gen.shapeCasts_S1x131072_S131072x1 : FVec Ideal KernelIdeal.S131072x1 .f32) (ix2 n 0) = x (ix2 0 n) := by
  pointwise []

/-! ## A point -/

section Point
variable (m : (ℓ : Loc KernelIdeal.nD KernelIdeal.τ KernelIdeal.sig) → Buf (Elt Ideal) ℓ) (c : Dev KernelIdeal.nD)

/-- The kernel's arguments, each as the array of its shape. -/
abbrev a0 : FVec Ideal ReferenceIdeal.S80 .f32 := m ((c : Thread KernelIdeal.nD KernelIdeal.τ).loc KernelIdeal.main_arg0)
abbrev a1 : FVec Ideal ReferenceIdeal.S16x1 .f32 := m ((c : Thread KernelIdeal.nD KernelIdeal.τ).loc KernelIdeal.main_arg1)
abbrev a2 : FVec Ideal ReferenceIdeal.S131072x3 .f32 := m ((c : Thread KernelIdeal.nD KernelIdeal.τ).loc KernelIdeal.main_arg2)
abbrev a3 : FVec Ideal ReferenceIdeal.S96x64x32 .f32 := m ((c : Thread KernelIdeal.nD KernelIdeal.τ).loc KernelIdeal.main_arg3)
abbrev a4 : FVec Ideal ReferenceIdeal.S96x64x32 .f32 := m ((c : Thread KernelIdeal.nD KernelIdeal.τ).loc KernelIdeal.main_arg4)
abbrev a5 : FVec Ideal ReferenceIdeal.S96x64x32 .f32 := m ((c : Thread KernelIdeal.nD KernelIdeal.τ).loc KernelIdeal.main_arg5)
abbrev a6 : FVec Ideal ReferenceIdeal.S128x192 .f32 := m ((c : Thread KernelIdeal.nD KernelIdeal.τ).loc KernelIdeal.main_arg6)
abbrev a7 : FVec Ideal ReferenceIdeal.S128 .f32 := m ((c : Thread KernelIdeal.nD KernelIdeal.τ).loc KernelIdeal.main_arg7)
abbrev a8 : FVec Ideal ReferenceIdeal.S128 .f32 := m ((c : Thread KernelIdeal.nD KernelIdeal.τ).loc KernelIdeal.main_arg8)
abbrev a9 : FVec Ideal ReferenceIdeal.S128x128 .f32 := m ((c : Thread KernelIdeal.nD KernelIdeal.τ).loc KernelIdeal.main_arg9)
abbrev a10 : FVec Ideal ReferenceIdeal.S128 .f32 := m ((c : Thread KernelIdeal.nD KernelIdeal.τ).loc KernelIdeal.main_arg10)
abbrev a11 : FVec Ideal ReferenceIdeal.S128 .f32 := m ((c : Thread KernelIdeal.nD KernelIdeal.τ).loc KernelIdeal.main_arg11)
abbrev a12 : FVec Ideal ReferenceIdeal.S1x128 .f32 := m ((c : Thread KernelIdeal.nD KernelIdeal.τ).loc KernelIdeal.main_arg12)
abbrev a13 : FVec Ideal ReferenceIdeal.S1 .f32 := m ((c : Thread KernelIdeal.nD KernelIdeal.τ).loc KernelIdeal.main_arg13)
abbrev a14 : FVec Ideal ReferenceIdeal.S1 .f32 := m ((c : Thread KernelIdeal.nD KernelIdeal.τ).loc KernelIdeal.main_arg14)

/-- The first layer before its bias: the kernel's folded tables under a point's tents are the reference's features under
    the normalised weights. -/
theorem first_layer (h : Tame.Facts (a0 m c) (a1 m c) (a3 m c) (a4 m c) (a5 m c) (a6 m c) (a7 m c) (a9 m c) (a12 m c)) (n : Fin 131072) (q : Fin 128) :
    ∑ k : Fin 192, folded m c (ix2 q k) * tents (a2 m c (ix2 n 0)) (a2 m c (ix2 n 1)) (a2 m c (ix2 n 2)) k
      = ∑ k : Fin 192, val_main_v163 (F := Ideal) (a0 m c) (a1 m c) (a2 m c) (a3 m c) (a4 m c) (a5 m c) (ix2 n k)
          * bySqrt (fun k => a6 m c (ix2 q k)) (a7 m c (ix1 q)) k := by
  choose e he using h.expr
  choose w hw using h.jaw
  choose t3 h3 using h.flx
  choose t4 h4 using h.fly
  choose t5 h5 using h.flz
  obtain ⟨g, hg⟩ := h.len0 q
  choose W hW using fun k => byRsqrt_coe (fun k => a6 m c (ix2 q k)) g k (h.row0 q)
  have hd : d0 m c = a6 m c := KernelIdeal.Gen.V_main_arg6 m c
  have hs (k : Fin 192) : scaled (fun k => d0 m c (ix2 q k)) (pk m c (ix2 0 q)) k = ((W k : ℝ) : EReal) := by
    rw [hd, pk_g0, show (m ((c : Thread KernelIdeal.nD KernelIdeal.τ).loc KernelIdeal.main_arg7) : Vec Ideal KernelIdeal.S128 .f32) (ix1 q) = _ from hg]
    exact hW k
  have hb (k : Fin 192) : bySqrt (fun k => a6 m c (ix2 q k)) (a7 m c (ix1 q)) k = ((W k : ℝ) : EReal) := by
    rw [bySqrt_eq _ _ _ (h.row0 q), hg, hW]
  have he' (i : Fin 80) : pk m c (ix2 6 ⟨i.val, by omega⟩) = (e i : EReal) := (pk_e m c i _).trans (he i)
  have hw' (i : Fin 16) : pk m c (ix2 7 ⟨i.val, by omega⟩) = (w i : EReal) := (pk_jw m c i _).trans (hw i)
  have hat (a b : ℕ) (ha : a < 192) (hbb : b < 192) (hab : a = b) : scaled (fun k => d0 m c (ix2 q k)) (pk m c (ix2 0 q)) ⟨a, ha⟩ = ((W ⟨b, hbb⟩ : ℝ) : EReal) := by
    subst hab; exact hs _
  have kx := folded_sum e w t3 (pk m c) (tx m c) (d0 m c) 0 (by omega) q (fun k => W ⟨k.val, by omega⟩) (fun k => W ⟨96 + k.val, by omega⟩)
    (a2 m c (ix2 n 0)) (fun k => hat _ _ _ _ (by omega)) (fun k => hat _ _ _ _ (by omega)) he' hw' (fun i l k hl => (tx_at m c i l k hl).trans (h3 i l k))
  have ky := folded_sum e w t4 (pk m c) (ty m c) (d0 m c) 32 (by omega) q (fun k => W ⟨32 + k.val, by omega⟩) (fun k => W ⟨128 + k.val, by omega⟩)
    (a2 m c (ix2 n 1)) (fun k => hat _ _ _ _ (by omega)) (fun k => hat _ _ _ _ (by omega)) he' hw' (fun i l k hl => (ty_at m c i l k hl).trans (h4 i l k))
  have kz := folded_sum e w t5 (pk m c) (tz m c) (d0 m c) 64 (by omega) q (fun k => W ⟨64 + k.val, by omega⟩) (fun k => W ⟨160 + k.val, by omega⟩)
    (a2 m c (ix2 n 2)) (fun k => hat _ _ _ _ (by omega)) (fun k => hat _ _ _ _ (by omega)) he' hw' (fun i l k hl => (tz_at m c i l k hl).trans (h5 i l k))
  have tx0 (l : Fin 64) : tents (a2 m c (ix2 n 0)) (a2 m c (ix2 n 1)) (a2 m c (ix2 n 2)) ⟨l.val, by omega⟩ = tentE (a2 m c (ix2 n 0)) l.val := by
    unfold tents; rw [if_pos (by dsimp only; omega)]
  have tx1 (l : Fin 64) : tents (a2 m c (ix2 n 0)) (a2 m c (ix2 n 1)) (a2 m c (ix2 n 2)) ⟨64 + l.val, by omega⟩ = tentE (a2 m c (ix2 n 1)) l.val := by
    unfold tents; rw [if_neg (by dsimp only; omega), if_pos (by dsimp only; omega)]
    congr 1; dsimp only; omega
  have tx2 (l : Fin 64) : tents (a2 m c (ix2 n 0)) (a2 m c (ix2 n 1)) (a2 m c (ix2 n 2)) ⟨128 + l.val, by omega⟩ = tentE (a2 m c (ix2 n 2)) l.val := by
    unfold tents; rw [if_neg (by dsimp only; omega), if_neg (by dsimp only; omega)]
    congr 1; dsimp only; omega
  rw [sum_bands, features_sum]
  simp only [tx0, tx1, tx2, folded_at0, folded_at1, folded_at2]
  rw [kx, ky, kz, v44_eq, v62_eq, v94_eq, v112_eq, v144_eq, v162_eq,
    columns_sum _ _ n (exprR e t3) (fun l k => (v2_at _ _ l k).trans (exprSum_coe e t3 _ _ he h3 l k)) _ _ (fun k => hb _),
    columns_sum _ _ n (exprR e t4) (fun l k => (v4_at _ _ l k).trans (exprSum_coe e t4 _ _ he h4 l k)) _ _ (fun k => hb _),
    columns_sum _ _ n (exprR e t5) (fun l k => (v6_at _ _ l k).trans (exprSum_coe e t5 _ _ he h5 l k)) _ _ (fun k => hb _),
    columns_sum _ _ n (jawR w t3) (fun l k => (v8_at _ _ l k).trans (jawSum_coe w t3 _ _ hw h3 l k)) _ _ (fun k => hb _),
    columns_sum _ _ n (jawR w t4) (fun l k => (v10_at _ _ l k).trans (jawSum_coe w t4 _ _ hw h4 l k)) _ _ (fun k => hb _),
    columns_sum _ _ n (jawR w t5) (fun l k => (v12_at _ _ l k).trans (jawSum_coe w t5 _ _ hw h5 l k)) _ _ (fun k => hb _),
    v14_at, v64_at, v114_at]
  simp only [← EReal.coe_add]
  congr 1
  ring

/-- The kernel's value at a point is the reference's. -/
theorem point_eq (h : Tame.Facts (a0 m c) (a1 m c) (a3 m c) (a4 m c) (a5 m c) (a6 m c) (a7 m c) (a9 m c) (a12 m c)) (n : Fin 131072) :
    result m c (ix2 0 n)
      = val_main_v198 (F := Ideal) (a0 m c) (a1 m c) (a2 m c) (a3 m c) (a4 m c) (a5 m c) (a6 m c) (a7 m c) (a8 m c) (a9 m c) (a10 m c) (a11 m c)
          (a12 m c) (a13 m c) (a14 m c) (ix2 n 0) := by
  have hd : d1 m c = a9 m c := KernelIdeal.Gen.V_main_arg9 m c
  rw [result_point, result_at, pts_at, pts_at, pts_at]
  unfold pointOut
  have hv : (fun k => pk m c (ix2 4 k)) = fun k => a12 m c (ix2 0 k) := funext fun k => pk_v2 m c k
  have last (p : Fin 128) : lastOf (pk m c) (ix2 0 p) = bySqrt (fun p => a12 m c (ix2 0 p)) (a13 m c (ix1 0)) p := by
    rw [last_at, bySqrt_eq _ _ _ h.row2, pk_g2, hv]
    rfl
  have mid (p q : Fin 128) : midOf (pk m c) (d1 m c) (ix2 p q) = bySqrt (fun q => a9 m c (ix2 p q)) (a10 m c (ix1 p)) q := by
    rw [mid_at, bySqrt_eq _ _ _ (h.row1 p), pk_g1, hd]
    rfl
  have hb0 (q : Fin 128) : biasOf (pk m c) (ix2 q 0) = a8 m c (ix1 q) := (bias_at0 _ q).trans (pk_b0 m c q)
  have hb1 (p : Fin 128) : biasOf (pk m c) (ix2 p 1) = a11 m c (ix1 p) := (bias_at1 _ p).trans (pk_b1 m c p)
  rw [show pk m c (ix2 5 1) = a14 m c (ix1 0) from pk_b2 m c]
  refine congrArg (· + _) (Finset.sum_congr rfl fun p _ => ?_)
  rw [last, hb1, mul_comm]
  refine congrArg (fun s => max (s + _) 0 * _) (Finset.sum_congr rfl fun q _ => ?_)
  rw [mid, hb0, first_layer m c h n q, mul_comm]

/-- The kernel's result array is the reference's. -/
theorem array_eq (h : Tame.Facts (a0 m c) (a1 m c) (a3 m c) (a4 m c) (a5 m c) (a6 m c) (a7 m c) (a9 m c) (a12 m c)) :
    (shapeCast KernelIdeal.S131072x1 (result m c : Vec Ideal KernelIdeal.S1x131072 .f32) KernelIdeal.Gen.shapeCasts_S1x131072_S131072x1)
      = val_main_v198 (F := Ideal) (a0 m c) (a1 m c) (a2 m c) (a3 m c) (a4 m c) (a5 m c) (a6 m c) (a7 m c) (a8 m c) (a9 m c) (a10 m c) (a11 m c)
          (a12 m c) (a13 m c) (a14 m c) := by
  refine funext fun (i : KernelIdeal.S131072x1.Idx) => ?_
  obtain ⟨n, hi⟩ : ∃ n : Fin 131072, i = (ix2 n 0 : KernelIdeal.S131072x1.Idx) := ⟨i 0, funext fun a => by
    match a with
    | ⟨0, _⟩ => rfl
    | ⟨1, _⟩ => exact Subsingleton.elim (α := Fin 1) _ _⟩
  subst hi
  exact (column_at _ n).trans (point_eq m c h n)

end Point

end Cert.Same

end
-- ==== Proof.lean ====
/-
  The proof of `Cert.Claim` (proofs.«01_k».proof.Defs): the frames of the kernel, of its ideal reading and of the
  reference, and the equality of the last two over the extended reals. The kernel's run is read in KBody and KRun, its
  arrays at an index in KAt; the reference's at an index in RAt; Lerp holds the mathematics, Tame what the precondition
  says, Same the equation; here they are assembled.
-/
module

public import proofs.«01_k».proof.Proof.Gen.Pre_tame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.KernelIdeal.Frame
public import proofs.«01_k».proof.Proof.Gen.Kernel.Frame
public import proofs.«01_k».proof.Proof.Gen.ReferenceIdeal.Run
public import proofs.«01_k».proof.Proof.Gen.ReferenceIdeal.Read
public import proofs.«01_k».proof.Proof.KRun
public import proofs.«01_k».proof.Proof.Same
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference terminates without fault, its arguments unchanged and its counters (it has none) at zero. -/
theorem frame_reference : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run (F := Ideal) m ρ)

/-- Kernel and reference end with the same array. -/
theorem algebraic : Cert.algebraic_KernelIdeal_ReferenceIdeal_pre_tame := by
  intro m g m' g' hpre hargs
  refine ⟨fun c => shapeCast Cert.KernelIdeal.S131072x1 (Cert.KernelIdeal.Value.result m c : Vec Ideal Cert.KernelIdeal.S1x131072 .f32)
    Cert.KernelIdeal.Gen.shapeCasts_S1x131072_S131072x1, ?_, ?_⟩
  · exact (θ_run Cert.KernelIdeal.defs _ _).mono (fun r h c => ⟨h.1 c, h.2 c⟩)
      (θ_run_and (Cert.KernelIdeal.Value.run_value m g) (Cert.KernelIdeal.Gen.unchanged m g))
  · refine (θ_run Cert.ReferenceIdeal.defs _ _).mono (fun r h c => ⟨?_, (h c).2⟩) (Cert.ReferenceIdeal.Value.run (F := Ideal) m' g')
    have ht := Tame.facts_of_masks _ _ _ _ _ _ _ _ _ _ _ _ _ _ _ (hpre c)
    obtain ⟨e0, e1, e2, e3, e4, e5, e6, e7, e8, e9, e10, e11, e12, e13, e14⟩ := hargs c
    refine ((h c).1.trans ((Cert.ReferenceIdeal.Read.val_main_v198_eq _).trans ?_)).trans (Same.array_eq m c ht).symm
    rw [show StableHlo.launchContents m' c (Proc.devRef .tc Cert.ReferenceIdeal.main_arg0) = Same.a0 m c from e0,
      show StableHlo.launchContents m' c (Proc.devRef .tc Cert.ReferenceIdeal.main_arg1) = Same.a1 m c from e1,
      show StableHlo.launchContents m' c (Proc.devRef .tc Cert.ReferenceIdeal.main_arg2) = Same.a2 m c from e2,
      show StableHlo.launchContents m' c (Proc.devRef .tc Cert.ReferenceIdeal.main_arg3) = Same.a3 m c from e3,
      show StableHlo.launchContents m' c (Proc.devRef .tc Cert.ReferenceIdeal.main_arg4) = Same.a4 m c from e4,
      show StableHlo.launchContents m' c (Proc.devRef .tc Cert.ReferenceIdeal.main_arg5) = Same.a5 m c from e5,
      show StableHlo.launchContents m' c (Proc.devRef .tc Cert.ReferenceIdeal.main_arg6) = Same.a6 m c from e6,
      show StableHlo.launchContents m' c (Proc.devRef .tc Cert.ReferenceIdeal.main_arg7) = Same.a7 m c from e7,
      show StableHlo.launchContents m' c (Proc.devRef .tc Cert.ReferenceIdeal.main_arg8) = Same.a8 m c from e8,
      show StableHlo.launchContents m' c (Proc.devRef .tc Cert.ReferenceIdeal.main_arg9) = Same.a9 m c from e9,
      show StableHlo.launchContents m' c (Proc.devRef .tc Cert.ReferenceIdeal.main_arg10) = Same.a10 m c from e10,
      show StableHlo.launchContents m' c (Proc.devRef .tc Cert.ReferenceIdeal.main_arg11) = Same.a11 m c from e11,
      show StableHlo.launchContents m' c (Proc.devRef .tc Cert.ReferenceIdeal.main_arg12) = Same.a12 m c from e12,
      show StableHlo.launchContents m' c (Proc.devRef .tc Cert.ReferenceIdeal.main_arg13) = Same.a13 m c from e13,
      show StableHlo.launchContents m' c (Proc.devRef .tc Cert.ReferenceIdeal.main_arg14) = Same.a14 m c from e14]

/-- Everything the certificate claims. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
